-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)

variable [Facts]

def fn {F : FTy → Type} [FloatOps F] (main_arg0 : FVec F S1x2048x1024 .bf16) (main_arg1 : FVec F S1024x1024 .bf16) (main_arg2 : FVec F S1024x1024 .bf16) (main_arg3 : FVec F S1024x1024 .bf16) (main_arg4 : FVec F S1024x1024 .bf16) : IVec S1x2048x1024 1 × IVec S1024x1024 1 × IVec S1024x1024 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1024x1024 .bf16 := Host.absf main_arg2
  let main_cst_1 : FVec F S_ .bf16 := constant S_ .bf16 0x7F80#16
  let main_v7 : FVec F S1024x1024 .bf16 := broadcastInDim S1024x1024 ![] bcast_S_S1024x1024 main_cst_1
  let main_v8 : IVec S1024x1024 1 := cmpf .olt main_v6 main_v7
  (main_v2, main_v5, main_v8)
-- ==== Pre_finite_ReferenceIdeal.lean ====
abbrev S4x2048x1024 : Shape := ⟨3, ![4, 2048, 1024]⟩
abbrev S1024x4096 : Shape := ⟨2, ![1024, 4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  bcast_S_S1024x4096 : S_.BroadcastsInDim S1024x4096 (![] : Fin 0 → Fin S1024x4096.rank)

variable [Facts]

def fn {F : FTy → Type} [FloatOps F] (main_arg0 : FVec F S4x2048x1024 .bf16) (main_arg1 : FVec F S1024x4096 .bf16) (main_arg2 : FVec F S1024x4096 .bf16) (main_arg3 : FVec F S1024x4096 .bf16) (main_arg4 : FVec F S4096x1024 .bf16) : IVec S4x2048x1024 1 × IVec S1024x4096 1 × IVec S1024x4096 1 :=
  let main_v0 : FVec F S4x2048x1024 .bf16 := Host.absf main_arg0
  let main_cst : FVec F S_ .bf16 := constant S_ .bf16 0x7F80#16
  let main_v1 : FVec F S4x2048x1024 .bf16 := broadcastInDim S4x2048x1024 ![] bcast_S_S4x2048x1024 main_cst
  let main_v2 : IVec S4x2048x1024 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S1024x4096 .bf16 := Host.absf main_arg2
  let main_cst_1 : FVec F S_ .bf16 := constant S_ .bf16 0x7F80#16
  let main_v7 : FVec F S1024x4096 .bf16 := broadcastInDim S1024x4096 ![] bcast_S_S1024x4096 main_cst_1
  let main_v8 : IVec S1024x4096 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S2 : Shape := ⟨1, ![2]⟩
abbrev S2048x1024 : Shape := ⟨2, ![2048, 1024]⟩
abbrev S1x1024x1024 : Shape := ⟨3, ![1, 1024, 1024]⟩
abbrev S4x1024x1024 : Shape := ⟨3, ![4, 1024, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x64x2 : Shape := ⟨3, ![2048, 64, 2]⟩
abbrev S2048x128 : Shape := ⟨2, ![2048, 128]⟩
abbrev S1x2 : Shape := ⟨2, ![1, 2]⟩
abbrev S64x2 : Shape := ⟨2, ![64, 2]⟩
abbrev S128 : Shape := ⟨1, ![128]⟩
abbrev S1x128 : Shape := ⟨2, ![1, 128]⟩
abbrev S1x2048x1x128 : Shape := ⟨4, ![1, 2048, 1, 128]⟩
abbrev S1x2048x2x128 : Shape := ⟨4, ![1, 2048, 2, 128]⟩
abbrev S2048x256 : Shape := ⟨2, ![2048, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S2x4x1024x1024 : Shape := ⟨4, ![2, 4, 1024, 1024]⟩
abbrev S3 : Shape := ⟨1, ![3]⟩
abbrev S512x1024 : Shape := ⟨2, ![512, 1024]⟩
abbrev S1x512x1024 : Shape := ⟨3, ![1, 512, 1024]⟩
abbrev S1 : Shape := ⟨1, ![1]⟩
abbrev S1x4x1024x1024 : Shape := ⟨4, ![1, 4, 1024, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x1x1024x256 : Shape := ⟨4, ![1, 1, 1024, 256]⟩
abbrev S1x1x256x1024 : Shape := ⟨4, ![1, 1, 256, 1024]⟩

abbrev nBuf : Space → Nat
  | .hbm => 70
  | .vmem => 7
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S2, .f32⟩
  | .hbm, ⟨6, _⟩ => ⟨S2048x1024, .bf16⟩
  | .hbm, ⟨7, _⟩ => ⟨S1x1024x1024, .bf16⟩
  | .hbm, ⟨8, _⟩ => ⟨S1x1024x1024, .bf16⟩
  | .hbm, ⟨9, _⟩ => ⟨S1x1024x1024, .bf16⟩
  | .hbm, ⟨10, _⟩ => ⟨S1x1024x1024, .bf16⟩
  | .hbm, ⟨11, _⟩ => ⟨S4x1024x1024, .bf16⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S2048, .i32⟩
  | .hbm, ⟨30, _⟩ => ⟨S2048x1, .i32⟩
  | .hbm, ⟨31, _⟩ => ⟨S1x64, .f32⟩
  | .hbm, ⟨32, _⟩ => ⟨S2048x1, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S2048x64x2, .f32⟩
  | .hbm, ⟨38, _⟩ => ⟨S2048x128, .f32⟩
  | .hbm, ⟨39, _⟩ => ⟨S2048x64, .f32⟩
  | .hbm, ⟨40, _⟩ => ⟨S2048x64x2, .f32⟩
  | .hbm, ⟨41, _⟩ => ⟨S2048x128, .f32⟩
  | .hbm, ⟨42, _⟩ => ⟨S1x2, .f32⟩
  | .hbm, ⟨43, _⟩ => ⟨S64x2, .f32⟩
  | .hbm, ⟨44, _⟩ => ⟨S128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S1x2048x1x128, .f32⟩
  | .hbm, ⟨49, _⟩ => ⟨S1x2048x2x128, .f32⟩
  | .hbm, ⟨50, _⟩ => ⟨S2048x256, .f32⟩
  | .hbm, ⟨51, _⟩ => ⟨S1x2048x1x128, .f32⟩
  | .hbm, ⟨52, _⟩ => ⟨S1x2048x2x128, .f32⟩
  | .hbm, ⟨53, _⟩ => ⟨S2048x256, .f32⟩
  | .hbm, ⟨54, _⟩ => ⟨S256, .i32⟩
  | .hbm, ⟨55, _⟩ => ⟨S1x256, .i32⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256x1, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S_, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .f32⟩
  | .hbm, ⟨68, _⟩ => ⟨S256x256, .bf16⟩
  | .hbm, ⟨69, _⟩ => ⟨S1x2048x1024, .f32⟩
  | .local _ .vmem, ⟨0, _⟩ => ⟨S2048x1024, .bf16⟩
  | .local _ .vmem, ⟨1, _⟩ => ⟨S4x1024x1024, .bf16⟩
  | .local _ .vmem, ⟨2, _⟩ => ⟨S2048x256, .f32⟩
  | .local _ .vmem, ⟨3, _⟩ => ⟨S2048x256, .f32⟩
  | .local _ .vmem, ⟨4, _⟩ => ⟨S256x256, .bf16⟩
  | .local _ .vmem, ⟨5, _⟩ => ⟨S1x2048x1024, .f32⟩
  | .local _ .vmem, ⟨6, _⟩ => ⟨S2x4x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_38 : BitVec 32 := 1#32
  let v51 : BitVec 32 := Scalar.muli v25 c1_i32_38
  let v52 : BitVec 32 := Scalar.addi c0_i32_39 v51
  v52.toNat
@[reducible] def k0_t1_loop : Scf.Loop 32 :=
  let c0_i32_43 : BitVec 32 := 0#32
  let c4_i32_44 : BitVec 32 := 4#32
  let v59 : BitVec 32 := Scalar.addi c0_i32_43 c4_i32_44
  let c1_i32_45 : BitVec 32 := 1#32
  ⟨c0_i32_43, v59, c1_i32_45⟩
def k0_off1 (k0_t1 : Fin k0_t1_loop.trips) : Fin 3 → Nat :=
  let c0_149 : Index := 0#32
  let c0_150 : Index := 0#32
  let c0_i32_43 : BitVec 32 := 0#32
  let c1_i32_45 : BitVec 32 := 1#32
  let arg10 : BitVec 32 := Scf.iv c0_i32_43 c1_i32_45 k0_t1
  let c256_i32 : BitVec 32 := 256#32
  let v123 : BitVec 32 := Scalar.muli arg10 c256_i32
  let v124 : Index := Scalar.indexCast v123
  ![0, 0, v124.toNat]
def k0_off2 (k0_t1 : Fin k0_t1_loop.trips) : Fin 3 → Nat :=
  let c1 : Index := 1#32
  let c0_151 : Index := 0#32
  let c0_i32_43 : BitVec 32 := 0#32
  let c1_i32_45 : BitVec 32 := 1#32
  let arg10 : BitVec 32 := Scf.iv c0_i32_43 c1_i32_45 k0_t1
  let c256_i32 : BitVec 32 := 256#32
  let v123 : BitVec 32 := Scalar.muli arg10 c256_i32
  let v127 : Index := Scalar.indexCast v123
  ![1, 0, v127.toNat]
def k0_off3 (k0_t1 : Fin k0_t1_loop.trips) : Fin 3 → Nat :=
  let c2 : Index := 2#32
  let c0_152 : Index := 0#32
  let c0_i32_43 : BitVec 32 := 0#32
  let c1_i32_45 : BitVec 32 := 1#32
  let arg10 : BitVec 32 := Scf.iv c0_i32_43 c1_i32_45 k0_t1
  let c256_i32 : BitVec 32 := 256#32
  let v123 : BitVec 32 := Scalar.muli arg10 c256_i32
  let v130 : Index := Scalar.indexCast v123
  ![2, 0, v130.toNat]
def k0_off4 (k0_t1 : Fin k0_t1_loop.trips) : Fin 3 → Nat :=
  let c3 : Index := 3#32
  let c0_i32_43 : BitVec 32 := 0#32
  let c1_i32_45 : BitVec 32 := 1#32
  let arg10 : BitVec 32 := Scf.iv c0_i32_43 c1_i32_45 k0_t1
  let c256_i32 : BitVec 32 := 256#32
  let v123 : BitVec 32 := Scalar.muli arg10 c256_i32
  let v133 : Index := Scalar.indexCast v123
  let c0_153 : Index := 0#32
  ![3, v133.toNat, 0]
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_66 : BitVec 32 := 1#32
  let v70 : BitVec 32 := Scalar.muli v25 c1_i32_66
  let v71 : BitVec 32 := Scalar.addi c0_i32_67 v70
  v71.toNat
@[reducible] def k0_t2_loop : Scf.Loop 32 :=
  let c0_i32_74 : BitVec 32 := 0#32
  let c4_i32_75 : BitVec 32 := 4#32
  let v80 : BitVec 32 := Scalar.addi c0_i32_74 c4_i32_75
  let c1_i32_76 : BitVec 32 := 1#32
  ⟨c0_i32_74, v80, c1_i32_76⟩
def k0_off5 (k0_t2 : Fin k0_t2_loop.trips) : Fin 4 → Nat :=
  let c0_149 : Index := 0#32
  let c0_150 : Index := 0#32
  let c0_151 : Index := 0#32
  let c0_i32_74 : BitVec 32 := 0#32
  let c1_i32_76 : BitVec 32 := 1#32
  let arg10 : BitVec 32 := Scf.iv c0_i32_74 c1_i32_76 k0_t2
  let c256_i32 : BitVec 32 := 256#32
  let v123 : BitVec 32 := Scalar.muli arg10 c256_i32
  let v124 : Index := Scalar.indexCast v123
  ![0, 0, 0, v124.toNat]
def k0_off6 (k0_t2 : Fin k0_t2_loop.trips) : Fin 4 → Nat :=
  let c0_152 : Index := 0#32
  let c1 : Index := 1#32
  let c0_153 : Index := 0#32
  let c0_i32_74 : BitVec 32 := 0#32
  let c1_i32_76 : BitVec 32 := 1#32
  let arg10 : BitVec 32 := Scf.iv c0_i32_74 c1_i32_76 k0_t2
  let c256_i32 : BitVec 32 := 256#32
  let v123 : BitVec 32 := Scalar.muli arg10 c256_i32
  let v127 : Index := Scalar.indexCast v123
  ![0, 1, 0, v127.toNat]
def k0_off7 (k0_t2 : Fin k0_t2_loop.trips) : Fin 4 → Nat :=
  let c0_154 : Index := 0#32
  let c2 : Index := 2#32
  let c0_155 : Index := 0#32
  let c0_i32_74 : BitVec 32 := 0#32
  let c1_i32_76 : BitVec 32 := 1#32
  let arg10 : BitVec 32 := Scf.iv c0_i32_74 c1_i32_76 k0_t2
  let c256_i32 : BitVec 32 := 256#32
  let v123 : BitVec 32 := Scalar.muli arg10 c256_i32
  let v130 : Index := Scalar.indexCast v123
  ![0, 2, 0, v130.toNat]
def k0_off8 (k0_t2 : Fin k0_t2_loop.trips) : Fin 4 → Nat :=
  let c0_156 : Index := 0#32
  let c3 : Index := 3#32
  let c0_i32_74 : BitVec 32 := 0#32
  let c1_i32_76 : BitVec 32 := 1#32
  let arg10 : BitVec 32 := Scf.iv c0_i32_74 c1_i32_76 k0_t2
  let c256_i32 : BitVec 32 := 256#32
  let v123 : BitVec 32 := Scalar.muli arg10 c256_i32
  let v133 : Index := Scalar.indexCast v123
  let c0_157 : Index := 0#32
  ![0, 3, v133.toNat, 0]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_102 : BitVec 32 := 1#32
  let v95 : BitVec 32 := Scalar.muli v14 c1_i32_102
  let v96 : BitVec 32 := Scalar.addi c0_i32_103 v95
  v96.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_110 : BitVec 32 := 1#32
  let v97 : BitVec 32 := Scalar.muli v25 c1_i32_110
  let v98 : BitVec 32 := Scalar.addi c0_i32_111 v97
  v98.toNat
@[reducible] def k0_t3_loop : Scf.Loop 32 :=
  let c0_i32_118 : BitVec 32 := 0#32
  let c4_i32_119 : BitVec 32 := 4#32
  let v107 : BitVec 32 := Scalar.addi c0_i32_118 c4_i32_119
  let c1_i32_120 : BitVec 32 := 1#32
  ⟨c0_i32_118, v107, c1_i32_120⟩
def k0_off9 (k0_t3 : Fin k0_t3_loop.trips) : Fin 4 → Nat :=
  let c1 : Index := 1#32
  let c0_149 : Index := 0#32
  let c0_150 : Index := 0#32
  let c0_i32_118 : BitVec 32 := 0#32
  let c1_i32_120 : BitVec 32 := 1#32
  let arg10 : BitVec 32 := Scf.iv c0_i32_118 c1_i32_120 k0_t3
  let c256_i32 : BitVec 32 := 256#32
  let v123 : BitVec 32 := Scalar.muli arg10 c256_i32
  let v124 : Index := Scalar.indexCast v123
  ![1, 0, 0, v124.toNat]
def k0_off10 (k0_t3 : Fin k0_t3_loop.trips) : Fin 4 → Nat :=
  let c1_151 : Index := 1#32
  let c1_152 : Index := 1#32
  let c0_153 : Index := 0#32
  let c0_i32_118 : BitVec 32 := 0#32
  let c1_i32_120 : BitVec 32 := 1#32
  let arg10 : BitVec 32 := Scf.iv c0_i32_118 c1_i32_120 k0_t3
  let c256_i32 : BitVec 32 := 256#32
  let v123 : BitVec 32 := Scalar.muli arg10 c256_i32
  let v127 : Index := Scalar.indexCast v123
  ![1, 1, 0, v127.toNat]
def k0_off11 (k0_t3 : Fin k0_t3_loop.trips) : Fin 4 → Nat :=
  let c1_154 : Index := 1#32
  let c2 : Index := 2#32
  let c0_155 : Index := 0#32
  let c0_i32_118 : BitVec 32 := 0#32
  let c1_i32_120 : BitVec 32 := 1#32
  let arg10 : BitVec 32 := Scf.iv c0_i32_118 c1_i32_120 k0_t3
  let c256_i32 : BitVec 32 := 256#32
  let v123 : BitVec 32 := Scalar.muli arg10 c256_i32
  let v130 : Index := Scalar.indexCast v123
  ![1, 2, 0, v130.toNat]
def k0_off12 (k0_t3 : Fin k0_t3_loop.trips) : Fin 4 → Nat :=
  let c1_156 : Index := 1#32
  let c3 : Index := 3#32
  let c0_i32_118 : BitVec 32 := 0#32
  let c1_i32_120 : BitVec 32 := 1#32
  let arg10 : BitVec 32 := Scf.iv c0_i32_118 c1_i32_120 k0_t3
  let c256_i32 : BitVec 32 := 256#32
  let v123 : BitVec 32 := Scalar.muli arg10 c256_i32
  let v133 : Index := Scalar.indexCast v123
  let c0_157 : Index := 0#32
  ![1, 3, v133.toNat, 0]
@[reducible] def k0_t4_loop : Scf.Loop 32 :=
  let c0_i32_145 : BitVec 32 := 0#32
  let c4_i32_146 : BitVec 32 := 4#32
  let v122 : BitVec 32 := Scalar.addi c0_i32_145 c4_i32_146
  let c1_i32_147 : BitVec 32 := 1#32
  ⟨c0_i32_145, v122, c1_i32_147⟩
def k0_off13 (k0_t4 : Fin k0_t4_loop.trips) : Fin 4 → Nat :=
  let c0_149 : Index := 0#32
  let c0_150 : Index := 0#32
  let c0_151 : Index := 0#32
  let c0_i32_145 : BitVec 32 := 0#32
  let c1_i32_147 : BitVec 32 := 1#32
  let arg10 : BitVec 32 := Scf.iv c0_i32_145 c1_i32_147 k0_t4
  let c256_i32 : BitVec 32 := 256#32
  let v123 : BitVec 32 := Scalar.muli arg10 c256_i32
  let v124 : Index := Scalar.indexCast v123
  ![0, 0, 0, v124.toNat]
def k0_off14 (k0_t4 : Fin k0_t4_loop.trips) : Fin 4 → Nat :=
  let c0_152 : Index := 0#32
  let c1 : Index := 1#32
  let c0_153 : Index := 0#32
  let c0_i32_145 : BitVec 32 := 0#32
  let c1_i32_147 : BitVec 32 := 1#32
  let arg10 : BitVec 32 := Scf.iv c0_i32_145 c1_i32_147 k0_t4
  let c256_i32 : BitVec 32 := 256#32
  let v123 : BitVec 32 := Scalar.muli arg10 c256_i32
  let v127 : Index := Scalar.indexCast v123
  ![0, 1, 0, v127.toNat]
def k0_off15 (k0_t4 : Fin k0_t4_loop.trips) : Fin 4 → Nat :=
  let c0_154 : Index := 0#32
  let c2 : Index := 2#32
  let c0_155 : Index := 0#32
  let c0_i32_145 : BitVec 32 := 0#32
  let c1_i32_147 : BitVec 32 := 1#32
  let arg10 : BitVec 32 := Scf.iv c0_i32_145 c1_i32_147 k0_t4
  let c256_i32 : BitVec 32 := 256#32
  let v123 : BitVec 32 := Scalar.muli arg10 c256_i32
  let v130 : Index := Scalar.indexCast v123
  ![0, 2, 0, v130.toNat]
def k0_off16 (k0_t4 : Fin k0_t4_loop.trips) : Fin 4 → Nat :=
  let c0_156 : Index := 0#32
  let c3 : Index := 3#32
  let c0_i32_145 : BitVec 32 := 0#32
  let c1_i32_147 : BitVec 32 := 1#32
  let arg10 : BitVec 32 := Scf.iv c0_i32_145 c1_i32_147 k0_t4
  let c256_i32 : BitVec 32 := 256#32
  let v123 : BitVec 32 := Scalar.muli arg10 c256_i32
  let v133 : Index := Scalar.indexCast v123
  let c0_157 : Index := 0#32
  ![0, 3, v133.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x2048x1024 : Shape := ⟨3, ![4, 2048, 1024]⟩
abbrev S1024x4096 : Shape := ⟨2, ![1024, 4096]⟩
abbrev S4096x1024 : Shape := ⟨2, ![4096, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x64x2 : Shape := ⟨3, ![2048, 64, 2]⟩
abbrev S2048x128 : Shape := ⟨2, ![2048, 128]⟩
abbrev S4x2048x4096 : Shape := ⟨3, ![4, 2048, 4096]⟩
abbrev S4x2048x32x128 : Shape := ⟨4, ![4, 2048, 32, 128]⟩
abbrev S4x2048x32x64x2 : Shape := ⟨5, ![4, 2048, 32, 64, 2]⟩
abbrev S4x2048x32x64x1 : Shape := ⟨5, ![4, 2048, 32, 64, 1]⟩
abbrev S4x2048x32x64 : Shape := ⟨4, ![4, 2048, 32, 64]⟩
abbrev S1x2048x1x128 : Shape := ⟨4, ![1, 2048, 1, 128]⟩
abbrev S4x32x2048x2048 : Shape := ⟨4, ![4, 32, 2048, 2048]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .i32⟩
  | .hbm, ⟨23, _⟩ => ⟨S2048x1, .i32⟩
  | .hbm, ⟨24, _⟩ => ⟨S1x64, .f32⟩
  | .hbm, ⟨25, _⟩ => ⟨S2048x1, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64x2, .f32⟩
  | .hbm, ⟨31, _⟩ => ⟨S2048x128, .f32⟩
  | .hbm, ⟨32, _⟩ => ⟨S2048x64, .f32⟩
  | .hbm, ⟨33, _⟩ => ⟨S2048x64x2, .f32⟩
  | .hbm, ⟨34, _⟩ => ⟨S2048x128, .f32⟩
  | .hbm, ⟨35, _⟩ => ⟨S4x2048x4096, .f32⟩
  | .hbm, ⟨36, _⟩ => ⟨S4x2048x4096, .bf16⟩
  | .hbm, ⟨37, _⟩ => ⟨S4x2048x4096, .f32⟩
  | .hbm, ⟨38, _⟩ => ⟨S4x2048x32x128, .f32⟩
  | .hbm, ⟨39, _⟩ => ⟨S4x2048x32x64x2, .f32⟩
  | .hbm, ⟨40, _⟩ => ⟨S4x2048x32x64x1, .f32⟩
  | .hbm, ⟨41, _⟩ => ⟨S4x2048x32x64, .f32⟩
  | .hbm, ⟨42, _⟩ => ⟨S4x2048x32x64, .f32⟩
  | .hbm, ⟨43, _⟩ => ⟨S4x2048x32x64x1, .f32⟩
  | .hbm, ⟨44, _⟩ => ⟨S4x2048x32x64, .f32⟩
  | .hbm, ⟨45, _⟩ => ⟨S4x2048x32x64x1, .f32⟩
  | .hbm, ⟨46, _⟩ => ⟨S4x2048x32x64x1, .f32⟩
  | .hbm, ⟨47, _⟩ => ⟨S4x2048x32x64x2, .f32⟩
  | .hbm, ⟨48, _⟩ => ⟨S4x2048x32x128, .f32⟩
  | .hbm, ⟨49, _⟩ => ⟨S1x2048x1x128, .f32⟩
  | .hbm, ⟨50, _⟩ => ⟨S4x2048x32x128, .f32⟩
  | .hbm, ⟨51, _⟩ => ⟨S4x2048x32x128, .f32⟩
  | .hbm, ⟨52, _⟩ => ⟨S1x2048x1x128, .f32⟩
  | .hbm, ⟨53, _⟩ => ⟨S4x2048x32x128, .f32⟩
  | .hbm, ⟨54, _⟩ => ⟨S4x2048x32x128, .f32⟩
  | .hbm, ⟨55, _⟩ => ⟨S4x2048x32x128, .f32⟩
  | .hbm, ⟨56, _⟩ => ⟨S4x2048x4096, .f32⟩
  | .hbm, ⟨57, _⟩ => ⟨S4x2048x4096, .bf16⟩
  | .hbm, ⟨58, _⟩ => ⟨S4x2048x4096, .f32⟩
  | .hbm, ⟨59, _⟩ => ⟨S4x2048x32x128, .f32⟩
  | .hbm, ⟨60, _⟩ => ⟨S4x2048x32x64x2, .f32⟩
  | .hbm, ⟨61, _⟩ => ⟨S4x2048x32x64x1, .f32⟩
  | .hbm, ⟨62, _⟩ => ⟨S4x2048x32x64, .f32⟩
  | .hbm, ⟨63, _⟩ => ⟨S4x2048x32x64, .f32⟩
  | .hbm, ⟨64, _⟩ => ⟨S4x2048x32x64x1, .f32⟩
  | .hbm, ⟨65, _⟩ => ⟨S4x2048x32x64, .f32⟩
  | .hbm, ⟨66, _⟩ => ⟨S4x2048x32x64x1, .f32⟩
  | .hbm, ⟨67, _⟩ => ⟨S4x2048x32x64x1, .f32⟩
  | .hbm, ⟨68, _⟩ => ⟨S4x2048x32x64x2, .f32⟩
  | .hbm, ⟨69, _⟩ => ⟨S4x2048x32x128, .f32⟩
  | .hbm, ⟨70, _⟩ => ⟨S1x2048x1x128, .f32⟩
  | .hbm, ⟨71, _⟩ => ⟨S4x2048x32x128, .f32⟩
  | .hbm, ⟨72, _⟩ => ⟨S4x2048x32x128, .f32⟩
  | .hbm, ⟨73, _⟩ => ⟨S1x2048x1x128, .f32⟩
  | .hbm, ⟨74, _⟩ => ⟨S4x2048x32x128, .f32⟩
  | .hbm, ⟨75, _⟩ => ⟨S4x2048x32x128, .f32⟩
  | .hbm, ⟨76, _⟩ => ⟨S4x2048x32x128, .f32⟩
  | .hbm, ⟨77, _⟩ => ⟨S4x2048x4096, .f32⟩
  | .hbm, ⟨78, _⟩ => ⟨S4x2048x4096, .bf16⟩
  | .hbm, ⟨79, _⟩ => ⟨S4x2048x4096, .f32⟩
  | .hbm, ⟨80, _⟩ => ⟨S4x2048x32x128, .f32⟩
  | .hbm, ⟨81, _⟩ => ⟨S4x32x2048x2048, .f32⟩
  | .hbm, ⟨82, _⟩ => ⟨S_, .f32⟩
  | .hbm, ⟨83, _⟩ => ⟨S4x32x2048x2048, .f32⟩
  | .hbm, ⟨84, _⟩ => ⟨S4x32x2048x2048, .f32⟩
  | .hbm, ⟨85, _⟩ => ⟨S_, .f32⟩
  | .hbm, ⟨86, _⟩ => ⟨S4x32x2048, .f32⟩
  | .hbm, ⟨87, _⟩ => ⟨S4x32x2048x1, .f32⟩
  | .hbm, ⟨88, _⟩ => ⟨S4x32x2048x2048, .f32⟩
  | .hbm, ⟨89, _⟩ => ⟨S4x32x2048x2048, .f32⟩
  | .hbm, ⟨90, _⟩ => ⟨S4x32x2048x2048, .f32⟩
  | .hbm, ⟨91, _⟩ => ⟨S_, .f32⟩
  | .hbm, ⟨92, _⟩ => ⟨S4x32x2048, .f32⟩
  | .hbm, ⟨93, _⟩ => ⟨S4x32x2048x1, .f32⟩
  | .hbm, ⟨94, _⟩ => ⟨S4x32x2048x2048, .f32⟩
  | .hbm, ⟨95, _⟩ => ⟨S4x32x2048x2048, .f32⟩
  | .hbm, ⟨96, _⟩ => ⟨S4x32x128x2048, .f32⟩
  | .hbm, ⟨97, _⟩ => ⟨S4x2048x32x128, .f32⟩
  | .hbm, ⟨98, _⟩ => ⟨S4x2048x4096, .f32⟩
  | .hbm, ⟨99, _⟩ => ⟨S4096x1024, .f32⟩
  | .hbm, ⟨100, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_3 : Ref sig .tc := ⟨.hbm, 82, rfl⟩
abbrev main_v72 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_5 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.Values.lean ====
/- What the kernel computes, as functions of vectors: one pair of heads of one hop on one block of 512 query rows, one
   trip of a hop's loop over the whole output, and a hop. No program, no memory: the runs state their contents by these. -/
module

public import proofs.«01_k».proof.Proof.Gen.KernelIdeal
public import Idealize.ShloMosaic.Lib.VecWindow
public import Idealize.ShloMosaic.Lib.ValueIdxCore

@[expose] public section

noncomputable section

namespace Cert.KernelIdeal

open Idealize.ShloMosaic
open Cert.KernelIdeal.Facts₀ Cert.KernelIdeal.Facts

variable {F : FTy → Type} [FloatOps F]

/-- The keys of a pair of heads, rotated: all 2048 rows. -/
def keyV (x : FVec F S2048x1024 .bf16) (sw : FVec F S256x256 .bf16) (cs sn : FVec F S2048x256 .f32) (wk : FVec F S1024x256 .bf16) : FVec F S2048x256 .fp8e4m3 :=
  have raw : FVec F S2048x256 .f32 := matmul dot_S2048x1024_S1024x256_S2048x256_1_0_0_1_n_n none x wk (constant S2048x256 .f32 0x00000000#32)
  have swapped : FVec F S2048x256 .f32 := matmul dot_S2048x256_S256x256_S2048x256_1_0_0_1_n_n none (truncf .bf16 raw bitsLt_bf16_f32) sw (constant S2048x256 .f32 0x00000000#32)
  truncf .fp8e4m3 (addf (mulf raw cs) (mulf swapped sn)) bitsLt_fp8e4m3_f32

/-- The values of a pair of heads. -/
def valV (x : FVec F S2048x1024 .bf16) (wv : FVec F S1024x256 .bf16) : FVec F S2048x256 .fp8e4m3 :=
  truncf .fp8e4m3 (matmul dot_S2048x1024_S1024x256_S2048x256_1_0_0_1_n_n none x wv (constant S2048x256 .f32 0x00000000#32)) bitsLt_fp8e4m3_f32

/-- The queries of a pair of heads on one block of 512 rows, rotated and scaled. -/
def qryV (xq : FVec F S512x1024 .bf16) (sw : FVec F S256x256 .bf16) (cs sn : FVec F S512x256 .f32) (wq : FVec F S1024x256 .bf16) : FVec F S512x256 .fp8e4m3 :=
  have raw : FVec F S512x256 .f32 := matmul dot_S512x1024_S1024x256_S512x256_1_0_0_1_n_n none xq wq (constant S512x256 .f32 0x00000000#32)
  have swapped : FVec F S512x256 .f32 := matmul dot_S512x256_S256x256_S512x256_1_0_0_1_n_n none (truncf .bf16 raw bitsLt_bf16_f32) sw (constant S512x256 .f32 0x00000000#32)
  truncf .fp8e4m3 (mulf (addf (mulf raw cs) (mulf swapped sn)) (broadcast S512x256 (Scalar.ofBits .f32 0x3DB504F3#32))) bitsLt_fp8e4m3_f32

/-- One head on one block of query rows: the exponentials of the scores against the values, over the row sums. -/
def headV (q : FVec F S512x128 .fp8e4m3) (k v : FVec F S2048x128 .fp8e4m3) : FVec F S512x128 .f32 :=
  have e : FVec F S512x2048 .f32 := exp (matmul dot_S512x128_S2048x128_S512x2048_1_1_0_0_n_n none q k (constant S512x2048 .f32 0x00000000#32))
  have den : FVec F S512x1 .f32 := shapeCast S512x1 (multiReduction .add [1] S512 e 0x00000000#32 reduces_S512x2048_S512 (.inl rfl) rfl) shapeCasts_S512_S512x1
  have num : FVec F S512x128 .f32 := matmul dot_S512x2048_S2048x128_S512x128_1_0_0_1_n_n none (truncf .fp8e5m2 e bitsLt_fp8e5m2_f32) v (constant S512x128 .f32 0x00000000#32)
  mulf num (broadcastTo S512x128 (divf (broadcast S512x1 (Scalar.ofBits .f32 0x3F800000#32)) den) broadcasts_S512x1_S512x128)

/-- A pair of heads on one block of query rows, through the rows of the output projection. -/
def pairV (q : FVec F S512x256 .fp8e4m3) (k v : FVec F S2048x256 .fp8e4m3) (wo : FVec F S256x1024 .bf16) : FVec F S512x1024 .f32 :=
  have lo : FVec F S512x128 .f32 := headV (extractStridedSlice S512x128 ![0, 0] q slices_S512x256_o0_0_S512x128)
    (extractStridedSlice S2048x128 ![0, 0] k slices_S2048x256_o0_0_S2048x128) (extractStridedSlice S2048x128 ![0, 0] v slices_S2048x256_o0_0_S2048x128)
  have hi : FVec F S512x128 .f32 := headV (extractStridedSlice S512x128 ![0, 128] q slices_S512x256_o0_128_S512x128)
    (extractStridedSlice S2048x128 ![0, 128] k slices_S2048x256_o0_128_S2048x128) (extractStridedSlice S2048x128 ![0, 128] v slices_S2048x256_o0_128_S2048x128)
  have ctx : FVec F S512x256 .f32 := concatenate S512x256 1 [⟨S512x128, lo⟩, ⟨S512x128, hi⟩] concatenates_S512x128_S512x128_S512x256_d1
  matmul dot_S512x256_S256x1024_S512x1024_1_0_0_1_n_n none (truncf .bf16 ctx bitsLt_bf16_f32) wo (constant S512x1024 .f32 0x00000000#32)

/-- The output block a trip finds, with the pair's contribution added. -/
def addV (o : FVec F S1x512x1024 .f32) (d : FVec F S512x1024 .f32) : FVec F S1x512x1024 .f32 :=
  shapeCast S1x512x1024 (addf (shapeCast S512x1024 o shapeCasts_S1x512x1024_S512x1024) d) shapeCasts_S512x1024_S1x512x1024

/-- Matrix `j` of the stack of weights, the columns of pair `p`. -/
def wcolV (W : Vec F S4x1024x1024 .bf16) (j : Fin 4) (p : Fin 4) : Vec F S1024x256 .bf16 :=
  fun i => W (ValueIdx.ix3 j (i 0) (⟨256 * p.val + (i 1).val, by have := p.isLt; have : (i 1).val < 256 := (i 1).isLt; omega⟩ : Fin 1024))

/-- Matrix 3 of the stack (the output projection), the rows of pair `p`. -/
def wrowV (W : Vec F S4x1024x1024 .bf16) (p : Fin 4) : Vec F S256x1024 .bf16 :=
  fun i => W (ValueIdx.ix3 (3 : Fin 4) (⟨256 * p.val + (i 0).val, by have := p.isLt; have : (i 0).val < 256 := (i 0).isLt; omega⟩ : Fin 1024) (i 1))

/-- A block of rows lies in the output, -/
theorem in_out (b : Fin 4) : ∀ a, (![0, 512 * b.val, 0] : Fin 3 → ℕ) a + S1x512x1024.size a ≤ S1x2048x1024.size a := by revert b; decide
/-- in the input, -/
theorem in_row (b : Fin 4) : ∀ a, (![512 * b.val, 0] : Fin 2 → ℕ) a + S512x1024.size a ≤ S2048x1024.size a := by revert b; decide
/-- and in a table. -/
theorem in_tab (b : Fin 4) : S2048x256.Slices (![512 * b.val, 0] : Fin 2 → ℕ) S512x256 := by revert b; decide

/-- What pair `p` adds to query block `b` of the output, from a hop's stack of weights (`xq` is the input the query rows are
    read from, `x` the one the keys and values are read from: the same block). -/
def contribV (x xq : FVec F S2048x1024 .bf16) (sw : FVec F S256x256 .bf16) (cs sn : FVec F S2048x256 .f32) (W : Vec F S4x1024x1024 .bf16) (p b : Fin 4) : FVec F S512x1024 .f32 :=
  pairV (qryV (VecWindow.window (s := S2048x1024) xq ![512 * b.val, 0] S512x1024.size (in_row b)) sw
      (extractStridedSlice S512x256 ![512 * b.val, 0] cs (in_tab b)) (extractStridedSlice S512x256 ![512 * b.val, 0] sn (in_tab b)) (wcolV W 0 p))
    (keyV x sw cs sn (wcolV W 1 p)) (valV x (wcolV W 2 p)) (wrowV W p)

/-- The output after one store of a trip: block `b` with the pair's contribution added. -/
def stepV (x xq : FVec F S2048x1024 .bf16) (sw : FVec F S256x256 .bf16) (cs sn : FVec F S2048x256 .f32) (W : Vec F S4x1024x1024 .bf16) (p : Fin 4)
    (o : Vec F S1x2048x1024 .f32) (b : Fin 4) : Vec F S1x512x1024 .f32 :=
  addV (VecWindow.window (s := S1x2048x1024) o ![0, 512 * b.val, 0] S1x512x1024.size (in_out b)) (contribV x xq sw cs sn W p b)

/-- The output after one trip of a hop's loop. -/
def tripV (x xq : FVec F S2048x1024 .bf16) (sw : FVec F S256x256 .bf16) (cs sn : FVec F S2048x256 .f32) (W : Vec F S4x1024x1024 .bf16) (p : Fin 4)
    (o : Vec F S1x2048x1024 .f32) : Vec F S1x2048x1024 .f32 :=
  VecWindow.put (s := S1x2048x1024) (VecWindow.put (s := S1x2048x1024) (VecWindow.put (s := S1x2048x1024) (VecWindow.put (s := S1x2048x1024) o
    ![0, 0, 0] S1x512x1024.size (stepV x xq sw cs sn W p o 0)) ![0, 512, 0] S1x512x1024.size (stepV x xq sw cs sn W p o 1))
    ![0, 1024, 0] S1x512x1024.size (stepV x xq sw cs sn W p o 2)) ![0, 1536, 0] S1x512x1024.size (stepV x xq sw cs sn W p o 3)

/-- The output before trip `n` of a hop's loop, from what the hop found. -/
def hopV (x xq : FVec F S2048x1024 .bf16) (sw : FVec F S256x256 .bf16) (cs sn : FVec F S2048x256 .f32) (W : Vec F S4x1024x1024 .bf16)
    (o : Vec F S1x2048x1024 .f32) : ℕ → Vec F S1x2048x1024 .f32
  | 0 => o
  | n + 1 => if h : n < 4 then tripV x xq sw cs sn W ⟨n, h⟩ (hopV x xq sw cs sn W o n) else hopV x xq sw cs sn W o n

/-- The output of zeros that the first hop finds. -/
def zeroV : Vec F S1x2048x1024 .f32 := fun _ => Scalar.ofBits .f32 0x00000000#32

/-- The output of a device from its input block, the tables and the four stacks of weights in the order they arrive. -/
def outV (x : FVec F S2048x1024 .bf16) (sw : FVec F S256x256 .bf16) (cs sn : FVec F S2048x256 .f32) (W0 W1 W2 W3 : Vec F S4x1024x1024 .bf16) : Vec F S1x2048x1024 .f32 :=
  hopV x x sw cs sn W3 (hopV x x sw cs sn W2 (hopV x x sw cs sn W1 (hopV x x sw cs sn W0 zeroV 4) 4) 4) 4

end Cert.KernelIdeal

end
-- ==== Proof.Trip.lean ====
/- One trip of the loop over pairs of heads: its run on any view of a stack of weights, and what it leaves in the output. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Values
public import Idealize.ShloMosaic.Lib.Pipeline.Value
public import Idealize.ShloMosaic.Lib.Exec
public import Idealize.ShloMosaic.Lib.Tactic
public import Idealize.ShloMosaic.Lib.Pipeline.Kit
public import Idealize.ShloMosaic.Lib.Rounds
public import Idealize.ShloMosaic.Lib.Pipeline.RegionTalk

@[expose] public section

set_option maxRecDepth 8192
set_option maxHeartbeats 4000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The algebra of the pipeline's ledger beside the ring's own. -/
abbrev UU : Type := UR sig nD τ × Rounds.URounds (GSem nD τ sig) Bool
local notation "𝕄" => MT nD τ sig Unit (Elt F) ℕ UU ℕ

/-- The landing scratch and its two slots, spelt as the copies spell them. -/
abbrev commM : Memref sig .tc .vmem S2x4x1024x1024 .bf16 := Memref.whole cc0_scratch0
/-- Slot 0 of the scratch. -/
abbrev slot0 : Memref sig .tc .vmem S4x1024x1024 .bf16 :=
  (commM.slice (Rect.unit (s := S2x4x1024x1024) ![0, 0, 0, 0] S1x4x1024x1024.size Facts₀.inb_S2x4x1024x1024_S1x4x1024x1024_0_0_0_0) (fun _ => rfl)).squeeze S4x1024x1024 Facts₀.squeezes_S1x4x1024x1024_S4x1024x1024
/-- Slot 1 of the scratch. -/
abbrev slot1 : Memref sig .tc .vmem S4x1024x1024 .bf16 :=
  (commM.slice (Rect.unit (s := S2x4x1024x1024) ![1, 0, 0, 0] S1x4x1024x1024.size Facts₀.inb_S2x4x1024x1024_S1x4x1024x1024_1_0_0_0) (fun _ => rfl)).squeeze S4x1024x1024 Facts₀.squeezes_S1x4x1024x1024_S4x1024x1024

/-! ## Loads by values -/

/-- A load at a window of a buffer that reads `x` is that window of `x`. -/
theorem readAt_window {s : Shape} {e : EltTy} {sp : Space} (v : View sig .tc sp s e) (f : v.ty.Contents (Elt F)) {off size : Fin s.rank → ℕ}
    (inb : ∀ a, off a + size a ≤ s.size a) : v.readAt (Elt F) (Rect.unit off size inb).toLoadRect f = VecWindow.window (v.read (Elt F) f) off size inb := rfl

/-- The columns of pair `p`, loaded from a stack held whole. -/
theorem whole_col (v : View sig .tc .vmem S4x1024x1024 .bf16) (W : Vec F S4x1024x1024 .bf16) (j p : Fin 4) {off : Fin 3 → ℕ}
    (inb : ∀ a, off a + S1x1024x256.size a ≤ S4x1024x1024.size a) (h : off = ![j.val, 0, 256 * p.val]) (hc : S1x1024x256.ShapeCasts S1024x256) :
    shapeCast S1024x256 (v.readAt (Elt F) (Rect.unit (s := S4x1024x1024) off S1x1024x256.size inb).toLoadRect (v.rep W)) hc = wcolV W j p := by
  subst h
  funext i
  rw [shapeCast_apply _ hc i (ValueIdx.ix3 (0 : Fin 1) (i 0) (i 1)) (by
    rw [Shape.rowMajor_val_three, Shape.rowMajor_val_two]
    show ((0 * 1024) + (i 0).val) * 256 + (i 1).val = (i 0).val * 256 + (i 1).val
    omega), readAt_window, View.read_rep]
  refine congrArg W (funext fun a => Fin.ext ?_)
  match a with
  | ⟨0, _⟩ => show j.val + 1 * 0 = j.val; omega
  | ⟨1, _⟩ => show 0 + 1 * (i 0).val = (i 0).val; omega
  | ⟨2, _⟩ => show 256 * p.val + 1 * (i 1).val = 256 * p.val + (i 1).val; omega

/-- The rows of pair `p` of the output projection, loaded from a stack held whole. -/
theorem whole_row (v : View sig .tc .vmem S4x1024x1024 .bf16) (W : Vec F S4x1024x1024 .bf16) (p : Fin 4) {off : Fin 3 → ℕ}
    (inb : ∀ a, off a + S1x256x1024.size a ≤ S4x1024x1024.size a) (h : off = ![3, 256 * p.val, 0]) (hc : S1x256x1024.ShapeCasts S256x1024) :
    shapeCast S256x1024 (v.readAt (Elt F) (Rect.unit (s := S4x1024x1024) off S1x256x1024.size inb).toLoadRect (v.rep W)) hc = wrowV W p := by
  subst h
  funext i
  rw [shapeCast_apply _ hc i (ValueIdx.ix3 (0 : Fin 1) (i 0) (i 1)) (by
    rw [Shape.rowMajor_val_three, Shape.rowMajor_val_two]
    show ((0 * 256) + (i 0).val) * 1024 + (i 1).val = (i 0).val * 1024 + (i 1).val
    omega), readAt_window, View.read_rep]
  refine congrArg W (funext fun a => Fin.ext ?_)
  match a with
  | ⟨0, _⟩ => show 3 + 1 * 0 = 3; omega
  | ⟨1, _⟩ => show 256 * p.val + 1 * (i 0).val = 256 * p.val + (i 0).val; omega
  | ⟨2, _⟩ => show 0 + 1 * (i 1).val = (i 1).val; omega

/-- A slot of the scratch, spelt as the copies spell it. -/
abbrev slotAt (offs : Fin 4 → ℕ) (inb : ∀ a, offs a + S1x4x1024x1024.size a ≤ S2x4x1024x1024.size a) : Memref sig .tc .vmem S4x1024x1024 .bf16 :=
  (commM.slice (Rect.unit (s := S2x4x1024x1024) offs S1x4x1024x1024.size inb) (fun _ => rfl)).squeeze S4x1024x1024 Facts₀.squeezes_S1x4x1024x1024_S4x1024x1024

/-- The scratch, read inside slot `t` while the slot holds `W`. -/
theorem slot_read (t : Fin 2) (inb : ∀ a, (![t.val, 0, 0, 0] : Fin 4 → ℕ) a + S1x4x1024x1024.size a ≤ S2x4x1024x1024.size a)
    (W : Vec F S4x1024x1024 .bf16) (y : S2x4x1024x1024.Idx) (hy : (y 0).val = t.val) :
    commM.view.read (Elt F) ((slotAt ![t.val, 0, 0, 0] inb).view.rep W) y = W (ValueIdx.ix3 (y 1) (y 2) (y 3)) := by
  conv_rhs => rw [← View.read_rep (slotAt ![t.val, 0, 0, 0] inb).view W]
  refine congrArg (commM.view.read (Elt F) ((slotAt ![t.val, 0, 0, 0] inb).view.rep W)) (?_ : y = (Rect.unit (s := S2x4x1024x1024) ![t.val, 0, 0, 0] S1x4x1024x1024.size inb).emb
    (Shape.reshapeEquiv Facts₀.squeezes_S1x4x1024x1024_S4x1024x1024.numel_eq (ValueIdx.ix3 (y 1) (y 2) (y 3))))
  rw [Shape.reshapeEquiv_eq_of_rowMajor (s := S1x4x1024x1024) (s' := S4x1024x1024) (y := ValueIdx.ix4 (0 : Fin 1) (y 1) (y 2) (y 3)) _ (by
    rw [Shape.rowMajor_val_four, Shape.rowMajor_val_three]
    show (((0 * 4) + (y 1).val) * 1024 + (y 2).val) * 1024 + (y 3).val = ((y 1).val * 1024 + (y 2).val) * 1024 + (y 3).val
    omega)]
  refine funext fun a => Fin.ext ?_
  match a with
  | ⟨0, _⟩ => show (y 0).val = t.val + 1 * 0; omega
  | ⟨1, _⟩ => show (y 1).val = 0 + 1 * (y 1).val; omega
  | ⟨2, _⟩ => show (y 2).val = 0 + 1 * (y 2).val; omega
  | ⟨3, _⟩ => show (y 3).val = 0 + 1 * (y 3).val; omega

/-- The columns of pair `p`, loaded through the scratch from slot `t`. -/
theorem slot_col (t : Fin 2) (inb : ∀ a, (![t.val, 0, 0, 0] : Fin 4 → ℕ) a + S1x4x1024x1024.size a ≤ S2x4x1024x1024.size a)
    (W : Vec F S4x1024x1024 .bf16) (j p : Fin 4) {off : Fin 4 → ℕ}
    (inb' : ∀ a, off a + S1x1x1024x256.size a ≤ S2x4x1024x1024.size a) (h : off = ![t.val, j.val, 0, 256 * p.val]) (hc : S1x1x1024x256.ShapeCasts S1024x256) :
    shapeCast S1024x256 (commM.view.readAt (Elt F) (Rect.unit (s := S2x4x1024x1024) off S1x1x1024x256.size inb').toLoadRect ((slotAt ![t.val, 0, 0, 0] inb).view.rep W)) hc = wcolV W j p := by
  subst h
  funext i
  rw [shapeCast_apply _ hc i (ValueIdx.ix4 (0 : Fin 1) (0 : Fin 1) (i 0) (i 1)) (by
    rw [Shape.rowMajor_val_four, Shape.rowMajor_val_two]
    show (((0 * 1) + 0) * 1024 + (i 0).val) * 256 + (i 1).val = (i 0).val * 256 + (i 1).val
    omega), readAt_window]
  refine (slot_read t inb W _ (by show t.val + 1 * 0 = t.val; omega)).trans (congrArg W (funext fun a => Fin.ext ?_))
  match a with
  | ⟨0, _⟩ => show j.val + 1 * 0 = j.val; omega
  | ⟨1, _⟩ => show 0 + 1 * (i 0).val = (i 0).val; omega
  | ⟨2, _⟩ => show 256 * p.val + 1 * (i 1).val = 256 * p.val + (i 1).val; omega

/-- The rows of pair `p` of the output projection, loaded through the scratch from slot `t`. -/
theorem slot_row (t : Fin 2) (inb : ∀ a, (![t.val, 0, 0, 0] : Fin 4 → ℕ) a + S1x4x1024x1024.size a ≤ S2x4x1024x1024.size a)
    (W : Vec F S4x1024x1024 .bf16) (p : Fin 4) {off : Fin 4 → ℕ}
    (inb' : ∀ a, off a + S1x1x256x1024.size a ≤ S2x4x1024x1024.size a) (h : off = ![t.val, 3, 256 * p.val, 0]) (hc : S1x1x256x1024.ShapeCasts S256x1024) :
    shapeCast S256x1024 (commM.view.readAt (Elt F) (Rect.unit (s := S2x4x1024x1024) off S1x1x256x1024.size inb').toLoadRect ((slotAt ![t.val, 0, 0, 0] inb).view.rep W)) hc = wrowV W p := by
  subst h
  funext i
  rw [shapeCast_apply _ hc i (ValueIdx.ix4 (0 : Fin 1) (0 : Fin 1) (i 0) (i 1)) (by
    rw [Shape.rowMajor_val_four, Shape.rowMajor_val_two]
    show (((0 * 1) + 0) * 256 + (i 0).val) * 1024 + (i 1).val = (i 0).val * 1024 + (i 1).val
    omega), readAt_window]
  refine (slot_read t inb W _ (by show t.val + 1 * 0 = t.val; omega)).trans (congrArg W (funext fun a => Fin.ext ?_))
  match a with
  | ⟨0, _⟩ => show 3 + 1 * 0 = 3; omega
  | ⟨1, _⟩ => show 256 * p.val + 1 * (i 0).val = 256 * p.val + (i 0).val; omega
  | ⟨2, _⟩ => show 0 + 1 * (i 1).val = (i 1).val; omega

/-- A table, the query rows of a block, and a block of the output, as a trip loads them. -/
abbrev tabL (v : View sig .tc .vmem S2048x256 .f32) (X : FVec F S2048x256 .f32) : FVec F S2048x256 .f32 :=
  shapeCast S2048x256 (v.readAt (Elt F) (Rect.unit (s := S2048x256) ![0, 0] S2048x256.size Facts₀.inb_S2048x256_S2048x256_0_0).toLoadRect (v.rep X)) Facts₀.shapeCasts_S2048x256_S2048x256
/-- Rows of the input, as loaded. -/
abbrev rowL (v : View sig .tc .vmem S2048x1024 .bf16) (X : FVec F S2048x1024 .bf16) (off : Fin 2 → ℕ) (inb : ∀ a, off a + S512x1024.size a ≤ S2048x1024.size a) : FVec F S512x1024 .bf16 :=
  shapeCast S512x1024 (v.readAt (Elt F) (Rect.unit (s := S2048x1024) off S512x1024.size inb).toLoadRect (v.rep X)) Facts₀.shapeCasts_S512x1024_S512x1024
/-- Rows of the output, as loaded. -/
abbrev outL (v : View sig .tc .vmem S1x2048x1024 .f32) (f : v.ty.Contents (Elt F)) (off : Fin 3 → ℕ) (inb : ∀ a, off a + S1x512x1024.size a ≤ S1x2048x1024.size a) : FVec F S1x512x1024 .f32 :=
  v.readAt (Elt F) (Rect.unit (s := S1x2048x1024) off S1x512x1024.size inb).toLoadRect f

/-- One store of a trip, from what the trip loads. -/
def rawV (x : FVec F S2048x1024 .bf16) (sw : FVec F S256x256 .bf16) (cs sn : FVec F S2048x256 .f32) (wq wk wv : FVec F S1024x256 .bf16) (wo : FVec F S256x1024 .bf16)
    (b : Fin 4) (xq : FVec F S512x1024 .bf16) (o : FVec F S1x512x1024 .f32) : FVec F S1x512x1024 .f32 :=
  addV o (pairV (qryV xq sw (extractStridedSlice S512x256 ![512 * b.val, 0] cs (in_tab b)) (extractStridedSlice S512x256 ![512 * b.val, 0] sn (in_tab b)) wq)
    (keyV x sw cs sn wk) (valV x wv) wo)

/-- The same, the loads given by the values they read. -/
theorem raw_eq {x X0 : FVec F S2048x1024 .bf16} {sw : FVec F S256x256 .bf16} {X2 X3 cs sn : FVec F S2048x256 .f32} {W : Vec F S4x1024x1024 .bf16} {p : Fin 4}
    {wq wk wv : FVec F S1024x256 .bf16} {wo : FVec F S256x1024 .bf16} (hq : wq = wcolV W 0 p) (hk : wk = wcolV W 1 p) (hv : wv = wcolV W 2 p) (ho : wo = wrowV W p)
    (b : Fin 4) {xq : FVec F S512x1024 .bf16} {o : Vec F S1x2048x1024 .f32} {ob : FVec F S1x512x1024 .f32} (h2 : cs = X2) (h3 : sn = X3)
    (hx : xq = VecWindow.window (s := S2048x1024) X0 ![512 * b.val, 0] S512x1024.size (in_row b))
    (hb : ob = VecWindow.window (s := S1x2048x1024) o ![0, 512 * b.val, 0] S1x512x1024.size (in_out b)) :
    rawV x sw cs sn wq wk wv wo b xq ob = stepV x X0 sw X2 X3 W p o b := by
  subst hq hk hv ho h2 h3 hx hb
  unfold rawV stepV contribV
  rfl

/-- One store of a trip, by values. -/
theorem raw_step (v5 : View sig .tc .vmem S1x2048x1024 .f32) (f : v5.ty.Contents (Elt F)) (v0 : View sig .tc .vmem S2048x1024 .bf16)
    (v2 v3 : View sig .tc .vmem S2048x256 .f32)
    (x X0 : FVec F S2048x1024 .bf16) (sw : FVec F S256x256 .bf16) (X2 X3 : FVec F S2048x256 .f32) (W : Vec F S4x1024x1024 .bf16) (p : Fin 4)
    {wq wk wv : FVec F S1024x256 .bf16} {wo : FVec F S256x1024 .bf16} (hq : wq = wcolV W 0 p) (hk : wk = wcolV W 1 p) (hv : wv = wcolV W 2 p) (ho : wo = wrowV W p)
    (b : Fin 4) {off : Fin 2 → ℕ} {off' : Fin 3 → ℕ} (h : off = ![512 * b.val, 0]) (h' : off' = ![0, 512 * b.val, 0])
    {inb : ∀ a, off a + S512x1024.size a ≤ S2048x1024.size a} {inb' : ∀ a, off' a + S1x512x1024.size a ≤ S1x2048x1024.size a} :
    rawV x sw (tabL v2 X2) (tabL v3 X3) wq wk wv wo b (rowL v0 X0 off inb) (outL v5 f off' inb')
      = stepV x X0 sw X2 X3 W p (v5.read (Elt F) f) b := by
  subst h h'
  exact raw_eq hq hk hv ho b ((shapeCast_self _ _).trans (View.readAt_rep_full (Val := Elt F) v2 X2 Facts₀.inb_S2048x256_S2048x256_0_0))
    ((shapeCast_self _ _).trans (View.readAt_rep_full (Val := Elt F) v3 X3 Facts₀.inb_S2048x256_S2048x256_0_0))
    ((shapeCast_self _ _).trans (View.readAt_rep_unit (Val := Elt F) v0 X0 inb rfl (in_row b))) rfl

/-- The four stores of a trip, by values. -/
theorem trip_close {x X0 : FVec F S2048x1024 .bf16} {sw : FVec F S256x256 .bf16} {X2 X3 : FVec F S2048x256 .f32} {W : Vec F S4x1024x1024 .bf16} {p : Fin 4}
    {o : Vec F S1x2048x1024 .f32} {p0 p1 p2 p3 : Vec F S1x512x1024 .f32} (h0 : p0 = stepV x X0 sw X2 X3 W p o 0) (h1 : p1 = stepV x X0 sw X2 X3 W p o 1)
    (h2 : p2 = stepV x X0 sw X2 X3 W p o 2) (h3 : p3 = stepV x X0 sw X2 X3 W p o 3) :
    VecWindow.put (s := S1x2048x1024) (VecWindow.put (s := S1x2048x1024) (VecWindow.put (s := S1x2048x1024) (VecWindow.put (s := S1x2048x1024) o
      ![0, 0, 0] S1x512x1024.size p0) ![0, 512, 0] S1x512x1024.size p1) ![0, 1024, 0] S1x512x1024.size p2) ![0, 1536, 0] S1x512x1024.size p3
      = tripV x X0 sw X2 X3 W p o := by
  subst h0 h1 h2 h3; rfl

/-- The four stores of a trip, from what the trip loads, leave the output of the trip. -/
theorem trip_done (v5 : View sig .tc .vmem S1x2048x1024 .f32) (f : v5.ty.Contents (Elt F)) (v0 : View sig .tc .vmem S2048x1024 .bf16)
    (v2 v3 : View sig .tc .vmem S2048x256 .f32) (x X0 : FVec F S2048x1024 .bf16) (sw : FVec F S256x256 .bf16) (X2 X3 : FVec F S2048x256 .f32)
    (W : Vec F S4x1024x1024 .bf16) (p : Fin 4)
    {wq wk wv : FVec F S1024x256 .bf16} {wo : FVec F S256x1024 .bf16} (hq : wq = wcolV W 0 p) (hk : wk = wcolV W 1 p) (hv : wv = wcolV W 2 p) (ho : wo = wrowV W p)
    {p0 p1 p2 p3 : Vec F S1x512x1024 .f32}
    (h0 : p0 = rawV x sw (tabL v2 X2) (tabL v3 X3) wq wk wv wo 0 (rowL v0 X0 ![0, 0] Facts₀.inb_S2048x1024_S512x1024_0_0) (outL v5 f ![0, 0, 0] Facts₀.inb_S1x2048x1024_S1x512x1024_0_0_0))
    (h1 : p1 = rawV x sw (tabL v2 X2) (tabL v3 X3) wq wk wv wo 1 (rowL v0 X0 ![512, 0] Facts₀.inb_S2048x1024_S512x1024_512_0) (outL v5 f ![0, 512, 0] Facts₀.inb_S1x2048x1024_S1x512x1024_0_512_0))
    (h2 : p2 = rawV x sw (tabL v2 X2) (tabL v3 X3) wq wk wv wo 2 (rowL v0 X0 ![1024, 0] Facts₀.inb_S2048x1024_S512x1024_1024_0) (outL v5 f ![0, 1024, 0] Facts₀.inb_S1x2048x1024_S1x512x1024_0_1024_0))
    (h3 : p3 = rawV x sw (tabL v2 X2) (tabL v3 X3) wq wk wv wo 3 (rowL v0 X0 ![1536, 0] Facts₀.inb_S2048x1024_S512x1024_1536_0) (outL v5 f ![0, 1536, 0] Facts₀.inb_S1x2048x1024_S1x512x1024_0_1536_0)) :
    VecWindow.put (s := S1x2048x1024) (VecWindow.put (s := S1x2048x1024) (VecWindow.put (s := S1x2048x1024) (VecWindow.put (s := S1x2048x1024) (v5.read (Elt F) f)
      ![0, 0, 0] S1x512x1024.size p0) ![0, 512, 0] S1x512x1024.size p1) ![0, 1024, 0] S1x512x1024.size p2) ![0, 1536, 0] S1x512x1024.size p3
      = tripV x X0 sw X2 X3 W p (v5.read (Elt F) f) :=
  trip_close (h0.trans (raw_step v5 f v0 v2 v3 x X0 sw X2 X3 W p hq hk hv ho 0 rfl rfl)) (h1.trans (raw_step v5 f v0 v2 v3 x X0 sw X2 X3 W p hq hk hv ho 1 rfl rfl))
    (h2.trans (raw_step v5 f v0 v2 v3 x X0 sw X2 X3 W p hq hk hv ho 2 rfl rfl)) (h3.trans (raw_step v5 f v0 v2 v3 x X0 sw X2 X3 W p hq hk hv ho 3 rfl rfl))

/-- Four stores, block by block, read back. -/
theorem read_four (v : View sig .tc .vmem S1x2048x1024 .f32) (f : v.ty.Contents (Elt F)) (p0 p1 p2 p3 : Vec F S1x512x1024 .f32) :
    v.read (Elt F) (v.writes (Elt F) f
      [⟨Rect.unit (s := S1x2048x1024) ![0, 1536, 0] S1x512x1024.size Facts₀.inb_S1x2048x1024_S1x512x1024_0_1536_0, p3⟩,
       ⟨Rect.unit (s := S1x2048x1024) ![0, 1024, 0] S1x512x1024.size Facts₀.inb_S1x2048x1024_S1x512x1024_0_1024_0, p2⟩,
       ⟨Rect.unit (s := S1x2048x1024) ![0, 512, 0] S1x512x1024.size Facts₀.inb_S1x2048x1024_S1x512x1024_0_512_0, p1⟩,
       ⟨Rect.unit (s := S1x2048x1024) ![0, 0, 0] S1x512x1024.size Facts₀.inb_S1x2048x1024_S1x512x1024_0_0_0, p0⟩])
      = VecWindow.put (s := S1x2048x1024) (VecWindow.put (s := S1x2048x1024) (VecWindow.put (s := S1x2048x1024) (VecWindow.put (s := S1x2048x1024) (v.read (Elt F) f)
          ![0, 0, 0] S1x512x1024.size p0) ![0, 512, 0] S1x512x1024.size p1) ![0, 1024, 0] S1x512x1024.size p2) ![0, 1536, 0] S1x512x1024.size p3 := by
  refine (View.read_writes_cons_put _ _ _ _ _ rfl).trans ?_
  refine Eq.trans (congrArg (fun z => VecWindow.put (s := S1x2048x1024) z _ _ _) ((View.read_writes_cons_put _ _ _ _ _ rfl).trans
    (congrArg (fun z => VecWindow.put (s := S1x2048x1024) z _ _ _) ((View.read_writes_cons_put _ _ _ _ _ rfl).trans
    (congrArg (fun z => VecWindow.put (s := S1x2048x1024) z _ _ _) (View.read_writes_cons_put _ _ _ _ _ rfl)))))) ?_
  rw [View.writes_nil]

/-- One more trip of a hop. -/
theorem hop_succ {x xq : FVec F S2048x1024 .bf16} {sw : FVec F S256x256 .bf16} {cs sn : FVec F S2048x256 .f32} {W : Vec F S4x1024x1024 .bf16}
    {o a b : Vec F S1x2048x1024 .f32} {n : ℕ} (h : n < 4) (ha : a = hopV x xq sw cs sn W o n) (hb : b = tripV x xq sw cs sn W ⟨n, h⟩ a) :
    b = hopV x xq sw cs sn W o (n + 1) := by
  subst ha hb
  simp only [hopV, dif_pos h]

section Trips

variable (𝒱 : Variants) (c : Dev nD) (bd : Option 𝒱.V) (E : Set ℕ)
  (arg0 : Memref sig .tc .vmem S2048x1024 .bf16) (harg0 : arg0.IsWhole) (arg1 : Memref sig .tc .vmem S4x1024x1024 .bf16) (harg1 : arg1.IsWhole)
  (arg2 : Memref sig .tc .vmem S2048x256 .f32) (harg2 : arg2.IsWhole) (arg3 : Memref sig .tc .vmem S2048x256 .f32) (harg3 : arg3.IsWhole)
  (arg4 : Memref sig .tc .vmem S256x256 .bf16) (harg4 : arg4.IsWhole) (arg5 : Memref sig .tc .vmem S1x2048x1024 .f32) (harg5 : arg5.IsWhole)
  (harg6 : commM.IsWhole) (arg7 : DmaSems sig S3) (arg8 : DmaSems sig S3) (arg9 : Sems sig S_) (d0 : Dev nD) (v14 v25 : BitVec 32)
  (v48 : FVec F S2048x1024 .bf16) (v50 : FVec F S256x256 .bf16) (cst : BitVec 32)
  (X0 : Vec F S2048x1024 .bf16) (X2 X3 : Vec F S2048x256 .f32) (W : Vec F S4x1024x1024 .bf16) (q : PosShare TreeShare)

/-- What a trip holds: the input, the tables, the stack of weights `m` at a share, and the output. -/
abbrev tripRes (m : Memref sig .tc .vmem S4x1024x1024 .bf16) (f : BufTy.Contents (Elt F) arg5.view.ty) : sProp 𝕄 :=
  iprop((arg0.view.loc (c : Thread nD τ) ↦[arg0.view.set]{fullShare} arg0.view.rep X0) ∗ (arg2.view.loc (c : Thread nD τ) ↦[arg2.view.set]{fullShare} arg2.view.rep X2)
    ∗ (arg3.view.loc (c : Thread nD τ) ↦[arg3.view.set]{fullShare} arg3.view.rep X3)
    ∗ (m.view.loc (c : Thread nD τ) ↦[m.view.set]{q} m.view.rep W)
    ∗ (arg5.view.loc (c : Thread nD τ) ↦[arg5.view.set]{fullShare} f))

/-- What a hop's loop holds before trip `n`, the output found at `G`. -/
abbrev hopRes (m : Memref sig .tc .vmem S4x1024x1024 .bf16) (G : BufTy.Contents (Elt F) arg5.view.ty) (n : ℕ) : sProp 𝕄 :=
  iprop(∃ f, tripRes c arg0 arg2 arg3 arg5 X0 X2 X3 W q m f ∗ ⌜arg5.view.read (Elt F) f = hopV v48 X0 v50 X2 X3 W (arg5.view.read (Elt F) G) n⌝)

/-- One trip of hop 0's loop: the output block by block with the pair's contribution added. -/
theorem trip1 (k : Fin k0_t1_loop.trips) (hk : k.val < 4) (f : BufTy.Contents (Elt F) arg5.view.ty) :
    tripRes c arg0 arg2 arg3 arg5 X0 X2 X3 W q arg1 f
      ⊢ wp frame (wpE (defs₀ (F := F)) 𝒱 (c : Thread nD τ) bd) E (k0_t1_body (F := F) arg0 harg0 arg1 harg1 arg2 harg2 arg3 harg3 arg4 harg4 arg5 harg5 commM harg6 arg7 arg8 arg9 d0 v25 v48 v50 k PUnit.unit)
        (fun _ => iprop(∃ f', tripRes c arg0 arg2 arg3 arg5 X0 X2 X3 W q arg1 f'
          ∗ ⌜arg5.view.read (Elt F) f' = tripV v48 X0 v50 X2 X3 W ⟨k.val, hk⟩ (arg5.view.read (Elt F) f)⌝)) := by
  unfold k0_t1_body
  iintro ⟨H0, H2, H3, H6, H5⟩
  sl_exec
  sl_step
  iexists _
  isplitl [H0 H2 H3 H6 H5]
  · isplitl [H0]; · iexact H0
    isplitl [H2]; · iexact H2
    isplitl [H3]; · iexact H3
    isplitl [H6]; · iexact H6
    iexact H5
  ipureintro
  refine (read_four arg5.view f _ _ _ _).trans ?_
  exact trip_done arg5.view f arg0.view arg2.view arg3.view v48 X0 v50 X2 X3 W ⟨k.val, hk⟩
    (whole_col arg1.view W 0 ⟨k.val, hk⟩ (k0_off1_inb k) (k0_off1_eq k) Facts₀.shapeCasts_S1x1024x256_S1024x256)
    (whole_col arg1.view W 1 ⟨k.val, hk⟩ (k0_off2_inb k) (k0_off2_eq k) Facts₀.shapeCasts_S1x1024x256_S1024x256)
    (whole_col arg1.view W 2 ⟨k.val, hk⟩ (k0_off3_inb k) (k0_off3_eq k) Facts₀.shapeCasts_S1x1024x256_S1024x256)
    (whole_row arg1.view W ⟨k.val, hk⟩ (k0_off4_inb k) (k0_off4_eq k) Facts₀.shapeCasts_S1x256x1024_S256x1024)
    rfl rfl rfl rfl

/-- Hop 0's loop by its invariant: before trip `n` the output is `hopV … n` of what the loop found. -/
@[sl_loop, instance_reducible] def loop1 (G : BufTy.Contents (Elt F) arg5.view.ty) :
    Gen.LoopInvTy_k0_t1 (F := F) Unit ℕ UU ℕ 𝒱 c bd E arg0 harg0 arg1 harg1 arg2 harg2 arg3 harg3 arg4 harg4 arg5 harg5 commM harg6 arg7 arg8 arg9 d0 v25 v48 v50 where
  inv := fun n _ => hopRes c arg0 arg2 arg3 arg5 v48 v50 X0 X2 X3 W q arg1 G n
  step k acc := by
    have hk : k.val < 4 := Nat.lt_of_lt_of_le k.isLt k0_t1_abs.2.1
    iintro ⟨%f, HR, %hf⟩
    iapply (wp_wand_r Idealize.ShloMosaic.frame (wpE (defs₀ (F := F)) 𝒱 (c : Thread nD τ) bd) E)
    isplitl [HR]
    · iapply (trip1 𝒱 c bd E arg0 harg0 arg1 harg1 arg2 harg2 arg3 harg3 arg4 harg4 arg5 harg5 harg6 arg7 arg8 arg9 d0 v25 v48 v50 X0 X2 X3 W q k hk f)
      iexact HR
    · iintro %_ ⟨%f', HR, %hf'⟩
      iexists f'
      isplitl [HR]; · iexact HR
      ipureintro
      exact hop_succ hk hf hf'

/-- One trip of hop 1's loop: the output block by block with the pair's contribution added. -/
theorem trip2 (k : Fin k0_t2_loop.trips) (hk : k.val < 4) (f : BufTy.Contents (Elt F) arg5.view.ty) :
    tripRes c arg0 arg2 arg3 arg5 X0 X2 X3 W q slot0 f
      ⊢ wp frame (wpE (defs₀ (F := F)) 𝒱 (c : Thread nD τ) bd) E (k0_t2_body (F := F) arg0 harg0 arg1 harg1 arg2 harg2 arg3 harg3 arg4 harg4 arg5 harg5 commM harg6 arg7 arg8 arg9 d0 v14 v25 v48 v50 cst k PUnit.unit)
        (fun _ => iprop(∃ f', tripRes c arg0 arg2 arg3 arg5 X0 X2 X3 W q slot0 f'
          ∗ ⌜arg5.view.read (Elt F) f' = tripV v48 X0 v50 X2 X3 W ⟨k.val, hk⟩ (arg5.view.read (Elt F) f)⌝)) := by
  unfold k0_t2_body
  iintro ⟨H0, H2, H3, H6, H5⟩
  sl_exec
  sl_step
  iexists _
  isplitl [H0 H2 H3 H6 H5]
  · isplitl [H0]; · iexact H0
    isplitl [H2]; · iexact H2
    isplitl [H3]; · iexact H3
    isplitl [H6]; · iexact H6
    iexact H5
  ipureintro
  refine (read_four arg5.view f _ _ _ _).trans ?_
  exact trip_done arg5.view f arg0.view arg2.view arg3.view v48 X0 v50 X2 X3 W ⟨k.val, hk⟩
    (slot_col 0 Facts₀.inb_S2x4x1024x1024_S1x4x1024x1024_0_0_0_0 W 0 ⟨k.val, hk⟩ (k0_off5_inb k) (k0_off5_eq k) Facts₀.shapeCasts_S1x1x1024x256_S1024x256)
    (slot_col 0 Facts₀.inb_S2x4x1024x1024_S1x4x1024x1024_0_0_0_0 W 1 ⟨k.val, hk⟩ (k0_off6_inb k) (k0_off6_eq k) Facts₀.shapeCasts_S1x1x1024x256_S1024x256)
    (slot_col 0 Facts₀.inb_S2x4x1024x1024_S1x4x1024x1024_0_0_0_0 W 2 ⟨k.val, hk⟩ (k0_off7_inb k) (k0_off7_eq k) Facts₀.shapeCasts_S1x1x1024x256_S1024x256)
    (slot_row 0 Facts₀.inb_S2x4x1024x1024_S1x4x1024x1024_0_0_0_0 W ⟨k.val, hk⟩ (k0_off8_inb k) (k0_off8_eq k) Facts₀.shapeCasts_S1x1x256x1024_S256x1024)
    rfl rfl rfl rfl

/-- Hop 1's loop by its invariant: before trip `n` the output is `hopV … n` of what the loop found. -/
@[sl_loop, instance_reducible] def loop2 (G : BufTy.Contents (Elt F) arg5.view.ty) :
    Gen.LoopInvTy_k0_t2 (F := F) Unit ℕ UU ℕ 𝒱 c bd E arg0 harg0 arg1 harg1 arg2 harg2 arg3 harg3 arg4 harg4 arg5 harg5 commM harg6 arg7 arg8 arg9 d0 v14 v25 v48 v50 cst where
  inv := fun n _ => hopRes c arg0 arg2 arg3 arg5 v48 v50 X0 X2 X3 W q slot0 G n
  step k acc := by
    have hk : k.val < 4 := Nat.lt_of_lt_of_le k.isLt k0_t2_abs.2.1
    iintro ⟨%f, HR, %hf⟩
    iapply (wp_wand_r Idealize.ShloMosaic.frame (wpE (defs₀ (F := F)) 𝒱 (c : Thread nD τ) bd) E)
    isplitl [HR]
    · iapply (trip2 𝒱 c bd E arg0 harg0 arg1 harg1 arg2 harg2 arg3 harg3 arg4 harg4 arg5 harg5 harg6 arg7 arg8 arg9 d0 v14 v25 v48 v50 cst X0 X2 X3 W q k hk f)
      iexact HR
    · iintro %_ ⟨%f', HR, %hf'⟩
      iexists f'
      isplitl [HR]; · iexact HR
      ipureintro
      exact hop_succ hk hf hf'

/-- One trip of hop 2's loop: the output block by block with the pair's contribution added. -/
theorem trip3 (k : Fin k0_t3_loop.trips) (hk : k.val < 4) (f : BufTy.Contents (Elt F) arg5.view.ty) :
    tripRes c arg0 arg2 arg3 arg5 X0 X2 X3 W q slot1 f
      ⊢ wp frame (wpE (defs₀ (F := F)) 𝒱 (c : Thread nD τ) bd) E (k0_t3_body (F := F) arg0 harg0 arg1 harg1 arg2 harg2 arg3 harg3 arg4 harg4 arg5 harg5 commM harg6 arg7 arg8 arg9 d0 v25 v48 v50 k PUnit.unit)
        (fun _ => iprop(∃ f', tripRes c arg0 arg2 arg3 arg5 X0 X2 X3 W q slot1 f'
          ∗ ⌜arg5.view.read (Elt F) f' = tripV v48 X0 v50 X2 X3 W ⟨k.val, hk⟩ (arg5.view.read (Elt F) f)⌝)) := by
  unfold k0_t3_body
  iintro ⟨H0, H2, H3, H6, H5⟩
  sl_exec
  sl_step
  iexists _
  isplitl [H0 H2 H3 H6 H5]
  · isplitl [H0]; · iexact H0
    isplitl [H2]; · iexact H2
    isplitl [H3]; · iexact H3
    isplitl [H6]; · iexact H6
    iexact H5
  ipureintro
  refine (read_four arg5.view f _ _ _ _).trans ?_
  exact trip_done arg5.view f arg0.view arg2.view arg3.view v48 X0 v50 X2 X3 W ⟨k.val, hk⟩
    (slot_col 1 Facts₀.inb_S2x4x1024x1024_S1x4x1024x1024_1_0_0_0 W 0 ⟨k.val, hk⟩ (k0_off9_inb k) (k0_off9_eq k) Facts₀.shapeCasts_S1x1x1024x256_S1024x256)
    (slot_col 1 Facts₀.inb_S2x4x1024x1024_S1x4x1024x1024_1_0_0_0 W 1 ⟨k.val, hk⟩ (k0_off10_inb k) (k0_off10_eq k) Facts₀.shapeCasts_S1x1x1024x256_S1024x256)
    (slot_col 1 Facts₀.inb_S2x4x1024x1024_S1x4x1024x1024_1_0_0_0 W 2 ⟨k.val, hk⟩ (k0_off11_inb k) (k0_off11_eq k) Facts₀.shapeCasts_S1x1x1024x256_S1024x256)
    (slot_row 1 Facts₀.inb_S2x4x1024x1024_S1x4x1024x1024_1_0_0_0 W ⟨k.val, hk⟩ (k0_off12_inb k) (k0_off12_eq k) Facts₀.shapeCasts_S1x1x256x1024_S256x1024)
    rfl rfl rfl rfl

/-- Hop 2's loop by its invariant: before trip `n` the output is `hopV … n` of what the loop found. -/
@[sl_loop, instance_reducible] def loop3 (G : BufTy.Contents (Elt F) arg5.view.ty) :
    Gen.LoopInvTy_k0_t3 (F := F) Unit ℕ UU ℕ 𝒱 c bd E arg0 harg0 arg1 harg1 arg2 harg2 arg3 harg3 arg4 harg4 arg5 harg5 commM harg6 arg7 arg8 arg9 d0 v25 v48 v50 where
  inv := fun n _ => hopRes c arg0 arg2 arg3 arg5 v48 v50 X0 X2 X3 W q slot1 G n
  step k acc := by
    have hk : k.val < 4 := Nat.lt_of_lt_of_le k.isLt k0_t3_abs.2.1
    iintro ⟨%f, HR, %hf⟩
    iapply (wp_wand_r Idealize.ShloMosaic.frame (wpE (defs₀ (F := F)) 𝒱 (c : Thread nD τ) bd) E)
    isplitl [HR]
    · iapply (trip3 𝒱 c bd E arg0 harg0 arg1 harg1 arg2 harg2 arg3 harg3 arg4 harg4 arg5 harg5 harg6 arg7 arg8 arg9 d0 v25 v48 v50 X0 X2 X3 W q k hk f)
      iexact HR
    · iintro %_ ⟨%f', HR, %hf'⟩
      iexists f'
      isplitl [HR]; · iexact HR
      ipureintro
      exact hop_succ hk hf hf'

/-- One trip of hop 3's loop: the output block by block with the pair's contribution added. -/
theorem trip4 (k : Fin k0_t4_loop.trips) (hk : k.val < 4) (f : BufTy.Contents (Elt F) arg5.view.ty) :
    tripRes c arg0 arg2 arg3 arg5 X0 X2 X3 W q slot0 f
      ⊢ wp frame (wpE (defs₀ (F := F)) 𝒱 (c : Thread nD τ) bd) E (k0_t4_body (F := F) arg0 harg0 arg1 harg1 arg2 harg2 arg3 harg3 arg4 harg4 arg5 harg5 commM harg6 arg7 arg8 arg9 v48 v50 cst k PUnit.unit)
        (fun _ => iprop(∃ f', tripRes c arg0 arg2 arg3 arg5 X0 X2 X3 W q slot0 f'
          ∗ ⌜arg5.view.read (Elt F) f' = tripV v48 X0 v50 X2 X3 W ⟨k.val, hk⟩ (arg5.view.read (Elt F) f)⌝)) := by
  unfold k0_t4_body
  iintro ⟨H0, H2, H3, H6, H5⟩
  sl_exec
  sl_step
  iexists _
  isplitl [H0 H2 H3 H6 H5]
  · isplitl [H0]; · iexact H0
    isplitl [H2]; · iexact H2
    isplitl [H3]; · iexact H3
    isplitl [H6]; · iexact H6
    iexact H5
  ipureintro
  refine (read_four arg5.view f _ _ _ _).trans ?_
  exact trip_done arg5.view f arg0.view arg2.view arg3.view v48 X0 v50 X2 X3 W ⟨k.val, hk⟩
    (slot_col 0 Facts₀.inb_S2x4x1024x1024_S1x4x1024x1024_0_0_0_0 W 0 ⟨k.val, hk⟩ (k0_off13_inb k) (k0_off13_eq k) Facts₀.shapeCasts_S1x1x1024x256_S1024x256)
    (slot_col 0 Facts₀.inb_S2x4x1024x1024_S1x4x1024x1024_0_0_0_0 W 1 ⟨k.val, hk⟩ (k0_off14_inb k) (k0_off14_eq k) Facts₀.shapeCasts_S1x1x1024x256_S1024x256)
    (slot_col 0 Facts₀.inb_S2x4x1024x1024_S1x4x1024x1024_0_0_0_0 W 2 ⟨k.val, hk⟩ (k0_off15_inb k) (k0_off15_eq k) Facts₀.shapeCasts_S1x1x1024x256_S1024x256)
    (slot_row 0 Facts₀.inb_S2x4x1024x1024_S1x4x1024x1024_0_0_0_0 W ⟨k.val, hk⟩ (k0_off16_inb k) (k0_off16_eq k) Facts₀.shapeCasts_S1x1x256x1024_S256x1024)
    rfl rfl rfl rfl

/-- Hop 3's loop by its invariant: before trip `n` the output is `hopV … n` of what the loop found. -/
@[sl_loop, instance_reducible] def loop4 (G : BufTy.Contents (Elt F) arg5.view.ty) :
    Gen.LoopInvTy_k0_t4 (F := F) Unit ℕ UU ℕ 𝒱 c bd E arg0 harg0 arg1 harg1 arg2 harg2 arg3 harg3 arg4 harg4 arg5 harg5 commM harg6 arg7 arg8 arg9 v48 v50 cst where
  inv := fun n _ => hopRes c arg0 arg2 arg3 arg5 v48 v50 X0 X2 X3 W q slot0 G n
  step k acc := by
    have hk : k.val < 4 := Nat.lt_of_lt_of_le k.isLt k0_t4_abs.2.1
    iintro ⟨%f, HR, %hf⟩
    iapply (wp_wand_r Idealize.ShloMosaic.frame (wpE (defs₀ (F := F)) 𝒱 (c : Thread nD τ) bd) E)
    isplitl [HR]
    · iapply (trip4 𝒱 c bd E arg0 harg0 arg1 harg1 arg2 harg2 arg3 harg3 arg4 harg4 arg5 harg5 harg6 arg7 arg8 arg9 v48 v50 cst X0 X2 X3 W q k hk f)
      iexact HR
    · iintro %_ ⟨%f', HR, %hf'⟩
      iexists f'
      isplitl [HR]; · iexact HR
      ipureintro
      exact hop_succ hk hf hf'

end Trips

end Cert.KernelIdeal
-- ==== Proof.Ring.lean ====
/- The ring of four devices: neighbours, cells, what each duty carries and how much it pays, and the debts of a device in order. -/
module

public import proofs.«01_k».proof.Proof.Trip

@[expose] public section

set_option maxRecDepth 8192
set_option maxHeartbeats 60000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The ledger of the staging pipeline and the ledger of the ring. -/
abbrev EP : Emb (UR sig nD τ) 𝕄 := embL
/-- The rounds of the ring, among the ghost state. -/
abbrev ER : Emb (Rounds.URounds (GSem nD τ sig) Bool) 𝕄 := embR

/-! ## The ring -/

/-- The neighbours on the ring. -/
def nxt (c : Dev nD) : Dev nD := ⟨(c.val + 1) % 4, Nat.mod_lt _ (by decide)⟩
/-- The left neighbour. -/
def prv (c : Dev nD) : Dev nD := ⟨(c.val + 3) % 4, Nat.mod_lt _ (by decide)⟩
/-- The right neighbour of the left one is the device itself. -/
theorem nxt_prv (c : Dev nD) : nxt (prv c) = c := by revert c; decide
/-- The left neighbour of the right one is the device itself. -/
theorem prv_nxt (c : Dev nD) : prv (nxt c) = c := by revert c; decide
/-- The ring as a permutation of the devices. -/
def ring : Dev nD ≃ Dev nD := ⟨nxt, prv, prv_nxt, nxt_prv⟩

/-- Device number 1 of the program text is the left neighbour. -/
theorem dev1_eq (c : Dev nD) : (⟨k0_dev1 c, k0_dev1_lt c⟩ : Dev nD) = prv c := by revert c; decide +kernel
/-- Device number 2 of the program text is the right neighbour. -/
theorem dev2_eq (c : Dev nD) : (⟨k0_dev2 c, k0_dev2_lt c⟩ : Dev nD) = nxt c := by revert c; decide +kernel
/-- Device number 3 of the program text is the right neighbour. -/
theorem dev3_eq (c : Dev nD) : (⟨k0_dev3 c, k0_dev3_lt c⟩ : Dev nD) = nxt c := by revert c; decide +kernel
/-- Device number 4 of the program text is the right neighbour. -/
theorem dev4_eq (c : Dev nD) : (⟨k0_dev4 c, k0_dev4_lt c⟩ : Dev nD) = nxt c := by revert c; decide +kernel
/-- Device number 5 of the program text is the left neighbour. -/
theorem dev5_eq (c : Dev nD) : (⟨k0_dev5 c, k0_dev5_lt c⟩ : Dev nD) = prv c := by revert c; decide +kernel
/-- Device number 6 of the program text is the right neighbour. -/
theorem dev6_eq (c : Dev nD) : (⟨k0_dev6 c, k0_dev6_lt c⟩ : Dev nD) = nxt c := by revert c; decide +kernel

/-! ## Cells -/

/-- The semaphores of the ring: the barrier, the credit, and three of each of send and receive. -/
abbrev barS : Sem sig := barrier0
/-- The credit semaphore. -/
abbrev crdS : Sem sig := cc0_scratch3.sem
/-- The send semaphore of the first copy. -/
abbrev sndS0 : DmaSem sig := ((cc0_scratch1.slice (Rect.unit (s := S3) ![0] S1.size Facts₀.inb_S3_S1_0)).squeeze S_ Facts₀.squeezes_S1_S_).sem
/-- The send semaphore of the second copy. -/
abbrev sndS1 : DmaSem sig := ((cc0_scratch1.slice (Rect.unit (s := S3) ![1] S1.size Facts₀.inb_S3_S1_1)).squeeze S_ Facts₀.squeezes_S1_S_).sem
/-- The send semaphore of the third copy. -/
abbrev sndS2 : DmaSem sig := ((cc0_scratch1.slice (Rect.unit (s := S3) ![2] S1.size Facts₀.inb_S3_S1_2)).squeeze S_ Facts₀.squeezes_S1_S_).sem
/-- The receive semaphore of the first copy. -/
abbrev rcvS0 : DmaSem sig := ((cc0_scratch2.slice (Rect.unit (s := S3) ![0] S1.size Facts₀.inb_S3_S1_0)).squeeze S_ Facts₀.squeezes_S1_S_).sem
/-- The receive semaphore of the second copy. -/
abbrev rcvS1 : DmaSem sig := ((cc0_scratch2.slice (Rect.unit (s := S3) ![1] S1.size Facts₀.inb_S3_S1_1)).squeeze S_ Facts₀.squeezes_S1_S_).sem
/-- The receive semaphore of the third copy. -/
abbrev rcvS2 : DmaSem sig := ((cc0_scratch2.slice (Rect.unit (s := S3) ![2] S1.size Facts₀.inb_S3_S1_2)).squeeze S_ Facts₀.squeezes_S1_S_).sem

/-- The barrier of a device. -/
abbrev barCell (c : Dev nD) : GSem nD τ sig := ((c : Thread nD τ), .reg barS)
/-- The credit of a device. -/
abbrev crdCell (c : Dev nD) : GSem nD τ sig := ((c : Thread nD τ), .reg crdS)
/-- The send cell of the first copy. -/
abbrev snd0 (c : Dev nD) : GSem nD τ sig := ((c : Thread nD τ), .dma sndS0)
/-- The send cell of the second copy. -/
abbrev snd1 (c : Dev nD) : GSem nD τ sig := ((c : Thread nD τ), .dma sndS1)
/-- The send cell of the third copy. -/
abbrev snd2 (c : Dev nD) : GSem nD τ sig := ((c : Thread nD τ), .dma sndS2)
/-- The receive cell of the first copy. -/
abbrev rcv0 (c : Dev nD) : GSem nD τ sig := ((c : Thread nD τ), .dma rcvS0)
/-- The receive cell of the second copy. -/
abbrev rcv1 (c : Dev nD) : GSem nD τ sig := ((c : Thread nD τ), .dma rcvS1)
/-- The receive cell of the third copy. -/
abbrev rcv2 (c : Dev nD) : GSem nD τ sig := ((c : Thread nD τ), .dma rcvS2)

/-- The units one copy of a stack is worth. -/
@[irreducible] def N : ℕ := slot0.view.dmaCredit
/-- A copy is worth at least one unit. -/
theorem N_pos : 0 < N := by unfold N; exact View.dmaCredit_pos _ (by decide)

/-- The staged stack of weights of a device. -/
abbrev wM : Memref sig .tc .vmem S4x1024x1024 .bf16 := Memref.whole cc0_stg1_0

/-! ## What the duties carry -/

/-- A view of a stack on device `c`, holding `W` at share `q`. -/
abbrev holds (m : Memref sig .tc .vmem S4x1024x1024 .bf16) (c : Dev nD) (q : PosShare TreeShare) (W : Vec F S4x1024x1024 .bf16) : sProp 𝕄 :=
  iprop(m.view.loc (c : Thread nD τ) ↦[m.view.set]{q} m.view.rep W)
/-- A view of a stack on device `c`, at contents not named. -/
abbrev free (m : Memref sig .tc .vmem S4x1024x1024 .bf16) (c : Dev nD) : sProp 𝕄 :=
  iprop(∃ f, m.view.loc (c : Thread nD τ) ↦[m.view.set]{fullShare} f)

/-- What the right neighbour pays to the barrier of `c`: both of its slots, and that its three receive cells are at their first round. -/
def barPay (c : Dev nD) : sProp 𝕄 :=
  iprop(free slot0 (nxt c) ∗ free slot1 (nxt c) ∗ reached ER (rcv0 (nxt c)) 0 ∗ reached ER (rcv1 (nxt c)) 0 ∗ reached ER (rcv2 (nxt c)) 0)

/-- What the left neighbour pays to the barrier of `c`: that its credit cell is at its first round. -/
def barPay' (c : Dev nD) : sProp 𝕄 := iprop(reached ER (crdCell (prv c)) 0)

/-- The payloads of the cells of `c`, the stacks of all devices being `Ws`. -/
def pay (Ws : Dev nD → Vec F S4x1024x1024 .bf16) (c : Dev nD) : SemLoc sig → Bool → sProp 𝕄
  | .reg s, d => if s.val = 0 then free slot0 (nxt c) else if d then barPay c else barPay' c
  | .dma s, _ =>
    if s.val = 6 then holds wM c fullShare.left (Ws c)
    else if s.val = 7 then holds slot0 c fullShare.left (Ws (prv c))
    else if s.val = 8 then holds slot1 c fullShare.left (Ws (prv (prv c)))
    else if s.val = 9 then holds slot0 c fullShare (Ws (prv c))
    else if s.val = 10 then holds slot1 c fullShare (Ws (prv (prv c)))
    else if s.val = 11 then holds slot0 c fullShare (Ws (prv (prv (prv c))))
    else iprop(emp)

/-- A stack at a share can be stored in an invariant. -/
theorem holds_storable (m : Memref sig .tc .vmem S4x1024x1024 .bf16) (c : Dev nD) (q : PosShare TreeShare) (W : Vec F S4x1024x1024 .bf16) :
    BI.Storable (upEmb : UEmb _ 𝕄) (holds m c q W) := by infer_instance
/-- So can a stack of contents not named, -/
theorem free_storable (m : Memref sig .tc .vmem S4x1024x1024 .bf16) (c : Dev nD) : BI.Storable (upEmb : UEmb _ 𝕄) (free (F := F) m c) := by
  infer_instance
/-- what the right neighbour pays to the barrier, -/
theorem barPay_storable (c : Dev nD) : BI.Storable (upEmb : UEmb _ 𝕄) (barPay (F := F) c) := by
  have h0 := free_storable (F := F) slot0 (nxt c)
  have h1 := free_storable (F := F) slot1 (nxt c)
  unfold barPay
  generalize free (F := F) slot0 (nxt c) = P0 at h0 ⊢
  generalize free (F := F) slot1 (nxt c) = P1 at h1 ⊢
  infer_instance
/-- what the left neighbour pays, -/
theorem barPay'_storable (c : Dev nD) : BI.Storable (upEmb : UEmb _ 𝕄) (barPay' (F := F) c) := by
  unfold barPay'; infer_instance
/-- and nothing. -/
theorem emp_storable : BI.Storable (upEmb : UEmb _ 𝕄) iprop(emp) := by infer_instance

/-- Every payload may be kept in an invariant. -/
theorem pay_storable (Ws : Dev nD → Vec F S4x1024x1024 .bf16) (c : Dev nD) (s : SemLoc sig) (d : Bool) :
    BI.Storable (upEmb : UEmb _ 𝕄) (pay Ws c s d) := by
  cases s with
  | reg s =>
    dsimp only [pay]
    split
    · exact free_storable _ _
    split
    · exact barPay_storable _
    · exact barPay'_storable _
  | dma s =>
    dsimp only [pay]
    split
    · exact holds_storable _ _ _ _
    split
    · exact holds_storable _ _ _ _
    split
    · exact holds_storable _ _ _ _
    split
    · exact holds_storable _ _ _ _
    split
    · exact holds_storable _ _ _ _
    split
    · exact holds_storable _ _ _ _
    · exact emp_storable

/-- The duties of a semaphore: two on the barrier (one of each neighbour), one on every other semaphore of the ring. -/
def dut : SemLoc sig → Finset Bool
  | .reg s => if s.val = 0 then {false} else {false, true}
  | .dma s => if 6 ≤ s.val then {false} else ∅

/-- The units of a duty. -/
def amt : SemLoc sig → ℕ
  | .reg _ => 1
  | .dma _ => N

/-- One round on every semaphore of the ring. -/
def ringRd (Ws : Dev nD → Vec F S4x1024x1024 .bf16) : Rounds.Schedule (GSem nD τ sig) Bool 𝕄 where
  duties g r := if r = 0 ∧ g.1.2 = .tc then dut g.2 else ∅
  unitless _ := False
  amount g _ _ := amt g.2
  payload g _ d := pay Ws g.1.1 g.2 d
  amount_pos g _ _ _ := by
    rcases g with ⟨_, s | s⟩
    · exact Nat.one_pos
    · exact N_pos

instance ringRd_payload_storable (Ws : Dev nD → Vec F S4x1024x1024 .bf16) (g : GSem nD τ sig) (r : ℕ) (d : Bool) :
    BI.Storable (upEmb : UEmb _ 𝕄) ((ringRd Ws).payload g r d) :=
  pay_storable Ws g.1.1 g.2 d

section Tables

variable (Ws : Dev nD → Vec F S4x1024x1024 .bf16) (c : Dev nD) (d : Bool)

/-- Two payers meet at the barrier. -/
theorem duties_bar : (ringRd Ws).duties (barCell c) 0 = {false, true} := rfl
/-- One payer gives the credit. -/
theorem duties_crd : (ringRd Ws).duties (crdCell c) 0 = {false} := rfl
/-- The first send has one payer. -/
theorem duties_snd0 : (ringRd Ws).duties (snd0 c) 0 = {false} := rfl
/-- The second send has one payer. -/
theorem duties_snd1 : (ringRd Ws).duties (snd1 c) 0 = {false} := rfl
/-- The third send has one payer. -/
theorem duties_snd2 : (ringRd Ws).duties (snd2 c) 0 = {false} := rfl
/-- The first landing has one payer. -/
theorem duties_rcv0 : (ringRd Ws).duties (rcv0 c) 0 = {false} := rfl
/-- The second landing has one payer. -/
theorem duties_rcv1 : (ringRd Ws).duties (rcv1 c) 0 = {false} := rfl
/-- The third landing has one payer. -/
theorem duties_rcv2 : (ringRd Ws).duties (rcv2 c) 0 = {false} := rfl
/-- After the first round no cell has a duty. -/
theorem duties_later (g : GSem nD τ sig) : ∀ r, 1 ≤ r → (ringRd Ws).duties g r = ∅ :=
  fun r hr => by dsimp only [ringRd]; rw [if_neg (fun h => by omega)]

/-- A signal of the barrier is one unit. -/
theorem amount_bar : (ringRd Ws).amount (barCell c) 0 d = 1 := rfl
/-- So is the credit. -/
theorem amount_crd : (ringRd Ws).amount (crdCell c) 0 d = 1 := rfl
/-- The first send pays one copy of units. -/
theorem amount_snd0 : (ringRd Ws).amount (snd0 c) 0 d = N := rfl
/-- The second send pays one copy of units. -/
theorem amount_snd1 : (ringRd Ws).amount (snd1 c) 0 d = N := rfl
/-- The third send pays one copy of units. -/
theorem amount_snd2 : (ringRd Ws).amount (snd2 c) 0 d = N := rfl
/-- The first landing pays one copy of units. -/
theorem amount_rcv0 : (ringRd Ws).amount (rcv0 c) 0 d = N := rfl
/-- The second landing pays one copy of units. -/
theorem amount_rcv1 : (ringRd Ws).amount (rcv1 c) 0 d = N := rfl
/-- The third landing pays one copy of units. -/
theorem amount_rcv2 : (ringRd Ws).amount (rcv2 c) 0 d = N := rfl

/-- A device waits for two units at its barrier. -/
theorem expect_bar : (ringRd Ws).expect (barCell c) 0 = 2 := rfl
/-- It waits for one unit of credit. -/
theorem expect_crd : (ringRd Ws).expect (crdCell c) 0 = 1 := rfl
/-- It waits for one copy's units at each send and receive. -/
theorem expect_dma (s : DmaSem sig) (h : 6 ≤ s.val) : (ringRd Ws).expect ((c : Thread nD τ), .dma s) 0 = N := by
  have hd : (ringRd Ws).duties ((c : Thread nD τ), .dma s) 0 = {false} := by
    show (if 6 ≤ s.val then ({false} : Finset Bool) else ∅) = {false}
    exact if_pos h
  unfold Schedule.expect Schedule.amountOf
  rw [hd, Finset.sum_singleton]
  rfl
/-- The first send is waited for as one copy. -/
theorem expect_snd0 : (ringRd Ws).expect (snd0 c) 0 = N := expect_dma Ws c _ (by decide)
/-- The second send is waited for as one copy. -/
theorem expect_snd1 : (ringRd Ws).expect (snd1 c) 0 = N := expect_dma Ws c _ (by decide)
/-- The third send is waited for as one copy. -/
theorem expect_snd2 : (ringRd Ws).expect (snd2 c) 0 = N := expect_dma Ws c _ (by decide)
/-- The first landing is waited for as one copy. -/
theorem expect_rcv0 : (ringRd Ws).expect (rcv0 c) 0 = N := expect_dma Ws c _ (by decide)
/-- The second landing is waited for as one copy. -/
theorem expect_rcv1 : (ringRd Ws).expect (rcv1 c) 0 = N := expect_dma Ws c _ (by decide)
/-- The third landing is waited for as one copy. -/
theorem expect_rcv2 : (ringRd Ws).expect (rcv2 c) 0 = N := expect_dma Ws c _ (by decide)

/-- What the right neighbour pays to the barrier. -/
theorem payload_barT : (ringRd Ws).payload (barCell c) 0 true = barPay c := rfl
/-- What the left neighbour pays to the barrier. -/
theorem payload_barF : (ringRd Ws).payload (barCell c) 0 false = barPay' c := rfl
/-- The credit brings slot 0 of the right neighbour. -/
theorem payload_crd : (ringRd Ws).payload (crdCell c) 0 d = free slot0 (nxt c) := rfl
/-- The first send gives back the half of its source. -/
theorem payload_snd0 : (ringRd Ws).payload (snd0 c) 0 d = holds wM c fullShare.left (Ws c) := rfl
/-- The second send gives back the half of its source. -/
theorem payload_snd1 : (ringRd Ws).payload (snd1 c) 0 d = holds slot0 c fullShare.left (Ws (prv c)) := rfl
/-- The third send gives back the half of its source. -/
theorem payload_snd2 : (ringRd Ws).payload (snd2 c) 0 d = holds slot1 c fullShare.left (Ws (prv (prv c))) := rfl
/-- The first landing brings the slot with the stack of one place to the left. -/
theorem payload_rcv0 : (ringRd Ws).payload (rcv0 c) 0 d = holds slot0 c fullShare (Ws (prv c)) := rfl
/-- The second landing brings the slot with the stack of two places to the left. -/
theorem payload_rcv1 : (ringRd Ws).payload (rcv1 c) 0 d = holds slot1 c fullShare (Ws (prv (prv c))) := rfl
/-- The third landing brings the slot with the stack of three places to the left. -/
theorem payload_rcv2 : (ringRd Ws).payload (rcv2 c) 0 d = holds slot0 c fullShare (Ws (prv (prv (prv c)))) := rfl

end Tables

/-! ## What is owed at launch, and the levels -/

/-- What device `c` still owes after each of its payments, the last payment first. -/
def O₁ (c : Dev nD) : CellTallies nD τ sig Unit := tallyAt (rcv2 (nxt c)) () N
/-- With the credit to the left neighbour. -/
def O₂ (c : Dev nD) : CellTallies nD τ sig Unit := O₁ c + tallyAt (crdCell (prv c)) () 1
/-- With the second copy's landing on the right. -/
def O₃ (c : Dev nD) : CellTallies nD τ sig Unit := O₂ c + tallyAt (rcv1 (nxt c)) () N
/-- With the first copy's landing on the right. -/
def O₄ (c : Dev nD) : CellTallies nD τ sig Unit := O₃ c + tallyAt (rcv0 (nxt c)) () N
/-- With the signal to the right neighbour. -/
def O₅ (c : Dev nD) : CellTallies nD τ sig Unit := O₄ c + tallyAt (barCell (nxt c)) () 1
/-- All that a device owes at its start: with the signal to the left neighbour. -/
def O₀ (c : Dev nD) : CellTallies nD τ sig Unit := O₅ c + tallyAt (barCell (prv c)) () 1

/-- The level of a semaphore: a wait is below everything its waiter still owes. -/
def lvS : SemLoc sig → ℕ
  | .reg s => if s.val = 0 then 4 else 1
  | .dma s => if s.val = 9 then 2 else if s.val = 10 then 3 else if s.val = 11 then 5 else 0

/-- Every cell of a core has the one label. -/
def L (g : GSem nD τ sig) : Finset Unit := if g.1.2 = .tc then {()} else ∅
/-- The level of a cell is that of its semaphore. -/
def lv (g : GSem nD τ sig) (_ : Unit) : ℕ := lvS g.2

/-- No other cell has a label. -/
theorem L_of_ne (g : GSem nD τ sig) (h : g.1.2 ≠ .tc) : L g = ∅ := if_neg h
/-- A cell of a core has the label. -/
theorem L_tc (c : Dev nD) (sm : SemLoc sig) : L ((c : Thread nD τ), sm) = {()} := if_pos rfl

/-- Every cell with a debt is a device's own and lies above level `n`. -/
def Above (n : ℕ) (O : CellTallies nD τ sig Unit) : Prop := ∀ g u, 0 < O g u → g.1.2 = .tc ∧ n < lvS g.2

/-- A debt to one cell lies above every level below the cell. -/
theorem above_tally {n : ℕ} (c : Dev nD) (sm : SemLoc sig) (k : ℕ) (h : n < lvS sm) : Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)

/-- Two debts lie above a level if each does. -/
theorem above_add {n : ℕ} {O O' : CellTallies nD τ sig Unit} (h : Above n O) (h' : Above n O') : Above n (O + O') := by
  intro g u hg
  have hg' : 0 < O g u + O' g u := hg
  rcases Nat.eq_zero_or_pos (O g u) with z | p
  · exact h' g u (by omega)
  · exact h g u p

/-- The last debt lies above every level below five. -/
theorem above1 {n : ℕ} (c : Dev nD) (h : n < 5) : Above n (O₁ c) := above_tally _ _ _ h
/-- The last two debts lie above every level below four. -/
theorem above2 {n : ℕ} (c : Dev nD) (h : n < 4) : Above n (O₂ c) := above_add (above1 c (by omega)) (above_tally _ _ _ h)
/-- The last three debts lie above every level below three. -/
theorem above3 {n : ℕ} (c : Dev nD) (h : n < 3) : Above n (O₃ c) := above_add (above2 c (by omega)) (above_tally _ _ _ h)
/-- The last four debts lie above every level below two. -/
theorem above4 {n : ℕ} (c : Dev nD) (h : n < 2) : Above n (O₄ c) := above_add (above3 c (by omega)) (above_tally _ _ _ h)

/-- A wait below every debt is allowed. -/
theorem mayWait (c : Dev nD) (sm : SemLoc sig) (O : CellTallies nD τ sig Unit) (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by
      have := (h g u hg).1
      show u ∈ L g
      rw [L, if_pos this]; exact Finset.mem_singleton_self _)
    (fun p hp => by rw [Finset.mem_singleton.mp hp]; exact le_refl _)
    (fun g u hg => (h g u hg).2)

end Cert.KernelIdeal

end
-- ==== Proof.Steps.lean ====
/- The steps of the exchange, each once: signals, waits, copies and their landings. -/
module

public import proofs.«01_k».proof.Proof.Ring

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The steps of a hop -/

section Steps

variable (𝒱 : Variants) (c : Dev nD) (bd : Option 𝒱.V) (Ws : Dev nD → Vec F S4x1024x1024 .bf16) (κ : GSem nD τ sig → ℕ)

/-- A debt, whatever the waits recorded so far. -/
abbrev owing (c : Dev nD) (O : CellTallies nD τ sig Unit) : sProp 𝕄 := iprop(∃ W, owes (c : Thread nD τ) O W)

/-- Each send and landing pays one copy of units. -/
theorem amount_dma (c : Dev nD) (s : DmaSem sig) (d : Bool) : (ringRd Ws).amount ((c : Thread nD τ), .dma s) 0 d = N := rfl

/-- The units of a copy do not depend on the view. -/
theorem amount_stack (m : Memref sig .tc .vmem S4x1024x1024 .bf16) (s : DmaSem sig) : m.view.amount (.dma s) = N := by
  unfold N; rfl

/-- What a copy of the stack `W` leaves at its destination is `W`. -/
theorem landed (src dst : Memref sig .tc .vmem S4x1024x1024 .bf16) (c' : Dev nD) (fd : Buf (Elt F) (dst.view.loc (c' : Thread nD τ))) (W : Vec F S4x1024x1024 .bf16) :
    (dst.view.loc (c' : Thread nD τ) ↦[dst.view.set]{fullShare} dst.view.write (Elt F) fd (src.view.read (Elt F) (src.view.rep W)) Finset.univ : sProp 𝕄)
      ⊢ holds dst c' fullShare W := by
  have h : dst.view.read (Elt F) (dst.view.write (Elt F) fd (src.view.read (Elt F) (src.view.rep W)) Finset.univ) = W :=
    by
    rw [View.read_rep]
    exact View.read_write_univ (v := dst.view) (Val := Elt F) fd W
  exact pointsTo_rep_of_read (Val := Elt F) (c' : Thread nD τ) dst (dst.view.write (Elt F) fd (src.view.read (Elt F) (src.view.rep W)) Finset.univ) fullShare W h

/-- A copy of a stack to the right neighbour: half of the source goes with it, and what lands is the stack. -/
theorem send_step {p c' : Dev nD} (hp : p = c') {sS sR : DmaSem sig} {src dst : Memref sig .tc .vmem S4x1024x1024 .bf16}
    (hsc : dst.view.ref.isScScratch = false) (hw₁ : src.view.WordExact) (hw₂ : dst.view.WordExact)
    (ht : DmaTarget.Typed .vmem (.dma sR) (.remote (p : Thread nD τ) dst (.dma sS) hsc)) (W : Vec F S4x1024x1024 .bf16)
    (h1 : false ∈ (ringRd Ws).duties ((c : Thread nD τ), .dma sS) 0) (h2 : false ∈ (ringRd Ws).duties ((c' : Thread nD τ), .dma sR) 0)
    (p1 : (ringRd Ws).payload ((c : Thread nD τ), .dma sS) 0 false = holds src c fullShare.left W)
    (p2 : (ringRd Ws).payload ((c' : Thread nD τ), .dma sR) 0 false = holds dst c' fullShare W)
    (O₀ O : CellTallies nD τ sig Unit) (hO : O₀ = O + tallyAt ((c' : Thread nD τ), .dma sR) () N) (Q : PUnit → sProp 𝕄) :
    iprop(cellInv ER (ringRd Ws) (κ ((c : Thread nD τ), .dma sS)) ((c : Thread nD τ), .dma sS)
        ∗ cellInv ER (ringRd Ws) (κ ((c' : Thread nD τ), .dma sR)) ((c' : Thread nD τ), .dma sR)
        ∗ holds src c fullShare.left W ∗ free dst c' ∗ owing c O₀
        ∗ dutyTok ER ((c : Thread nD τ), .dma sS) 0 false ∗ reached ER ((c : Thread nD τ), .dma sS) 0
        ∗ dutyTok ER ((c' : Thread nD τ), .dma sR) 0 false ∗ reached ER ((c' : Thread nD τ), .dma sR) 0
        ∗ (cred (tallyAt ((c : Thread nD τ), .dma sS) () N) -∗ owing c O -∗ Q ⟨⟩))
      ⊢ wp frame (wpE (defs₀ (F := F)) 𝒱 c bd) Set.univ (Prog.lift (.enqueueDma src (.remote (p : Thread nD τ) dst (.dma sS) hsc) (.dma sR) hw₁ hw₂ ht)) Q := by
  subst hp
  iintro ⟨#HI1, #HI2, Hs, ⟨%fd, Hd⟩, ⟨%W₀, HO⟩, Ht1, #Hr1, Ht2, #Hr2, Hk⟩
  iapply (Rounds.wp_send_pointsTo 𝒱 ER (ringRd Ws) (c : Thread nD τ) bd (c' := (p : Thread nD τ)) (src := src) (dst := dst) (r₁ := 0) (r₂ := 0)
    (q := fullShare.left) (fs := src.view.rep W) (fd := fd) (κ₁ := κ ((c : Thread nD τ), .dma sS)) (κ₂ := κ ((p : Thread nD τ), .dma sR))
    h1 h2 () () N (amount_stack dst sR) (amount_dma Ws c sS false) (amount_dma Ws p sR false) O hO (W := W₀)
    (by rw [p1])
    ((landed src dst p fd W).trans (Entails.of_eq p2.symm))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  sl_step
  iapply Hk $$ Hc
  iexists W₀
  iexact HO

/-- A wait for the one duty of a copy's semaphore. -/
theorem wait_step {s : DmaSem sig} {src dst : Memref sig .tc .vmem S4x1024x1024 .bf16} (hw₁ : src.view.WordExact) (hw₂ : dst.view.WordExact)
    (h1 : (ringRd Ws).duties ((c : Thread nD τ), .dma s) 0 = {false})
    (P : sProp 𝕄) (p1 : (ringRd Ws).payload ((c : Thread nD τ), .dma s) 0 false = P)
    (O : CellTallies nD τ sig Unit) (hO : Above (lvS (.dma s)) O) (Q : PUnit → sProp 𝕄) :
    iprop(cellInv ER (ringRd Ws) (κ ((c : Thread nD τ), .dma s)) ((c : Thread nD τ), .dma s)
        ∗ cred (tallyAt ((c : Thread nD τ), .dma s) () N) ∗ owing c O ∗ levAts L lv ∗ atPos ER ((c : Thread nD τ), .dma s) 0 ∅ 0
        ∗ (P -∗ atPos ER ((c : Thread nD τ), .dma s) (0 + 1) ∅ 0 -∗ owing c O -∗ Q ⟨⟩))
      ⊢ wp frame (wpE (defs₀ (F := F)) 𝒱 c bd) Set.univ (Prog.lift (.waitDma2 s src dst hw₁ hw₂)) Q := by
  subst p1
  have he : (ringRd Ws).expect ((c : Thread nD τ), .dma s) 0 = dst.view.dmaCredit := by
    unfold Schedule.expect Schedule.amountOf
    rw [h1, Finset.sum_singleton]
    exact (amount_stack dst s).symm
  have hN : dst.view.dmaCredit = N := amount_stack dst s
  have hp : bigSep ((ringRd Ws).duties ((c : Thread nD τ), .dma s) 0 \ ∅) (fun u => (ringRd Ws).payload ((c : Thread nD τ), .dma s) 0 u)
      = (ringRd Ws).payload ((c : Thread nD τ), .dma s) 0 false := by
    rw [Finset.sdiff_empty, h1, bigSep_singleton]
  iintro ⟨#HI, Hc, ⟨%W₀, HO⟩, #Hlev, Hat, Hk⟩
  iapply (Rounds.wp_wait_rest_token 𝒱 ER (ringRd Ws) (c : Thread nD τ) bd (κ := κ ((c : Thread nD τ), .dma s))
      (wpE_waitDma2_eq (src := src) (dst := dst) 𝒱 (c : Thread nD τ) bd Set.univ) (Set.mem_univ _) () (O := O) (W := W₀) (R := 0) (m := 0) (T := ∅)
      ((Nat.zero_add _).trans he.symm)) $$ [Hc HO Hat]
  · isplitr; · iexact HI
    isplitl [Hc]; · rw [hN]; iexact Hc
    isplitl [HO]; · iexact HO
    isplitr; · iapply (mayWait c (.dma s) O hO); iexact Hlev
    iexact Hat
  iintro ⟨HO, Hat, -, Hp⟩
  ihave Hq := (Entails.of_eq hp) $$ Hp
  sl_step
  iapply Hk $$ Hq Hat
  iexists _
  iexact HO

end Steps

end Cert.KernelIdeal

end
-- ==== Proof.Body.lean ====
/- The body of the call on one device: the barrier, four hops, three copies and the credit. -/
module

public import proofs.«01_k».proof.Proof.Steps

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Start

variable (𝒱 : Variants) (c : Dev nD) (bd : Option 𝒱.V)
  (arg0 : Memref sig .tc .vmem S2048x1024 .bf16) (harg0 : arg0.IsWhole) (arg1 : Memref sig .tc .vmem S4x1024x1024 .bf16) (harg1 : arg1.IsWhole)
  (arg2 : Memref sig .tc .vmem S2048x256 .f32) (harg2 : arg2.IsWhole)
  (arg3 : Memref sig .tc .vmem S2048x256 .f32) (harg3 : arg3.IsWhole) (arg4 : Memref sig .tc .vmem S256x256 .bf16) (harg4 : arg4.IsWhole)
  (arg5 : Memref sig .tc .vmem S1x2048x1024 .f32) (harg5 : arg5.IsWhole) (arg6 : Memref sig .tc .vmem S2x4x1024x1024 .bf16) (harg6 : arg6.IsWhole)
  (arg7 arg8 : DmaSems sig S3) (arg9 : Sems sig S_)

/-- Zeros over the four row blocks are zeros everywhere. -/
theorem put_zero (x : Vec F S1x2048x1024 .f32) (p0 p1 p2 p3 : Vec F S1x512x1024 .f32)
    (h0 : p0 = fun _ => Scalar.ofBits .f32 0x00000000#32) (h1 : p1 = fun _ => Scalar.ofBits .f32 0x00000000#32)
    (h2 : p2 = fun _ => Scalar.ofBits .f32 0x00000000#32) (h3 : p3 = fun _ => Scalar.ofBits .f32 0x00000000#32) :
    VecWindow.put (s := S1x2048x1024) (VecWindow.put (s := S1x2048x1024) (VecWindow.put (s := S1x2048x1024) (VecWindow.put (s := S1x2048x1024) x
          ![0, 0, 0] S1x512x1024.size p0) ![0, 512, 0] S1x512x1024.size p1) ![0, 1024, 0] S1x512x1024.size p2) ![0, 1536, 0] S1x512x1024.size p3 = zeroV := by
  subst h0 h1 h2 h3
  funext i
  have hb : ∀ (o : ℕ), o ≤ (i 1).val → (i 1).val < o + 512 →
      ∀ a, (![0, o, 0] : Fin 3 → ℕ) a ≤ (i a).val ∧ (i a).val < (![0, o, 0] : Fin 3 → ℕ) a + S1x512x1024.size a := by
    intro o h h' a
    match a with
    | ⟨0, _⟩ => exact ⟨Nat.zero_le _, by show (i 0).val < 0 + 1; have h0 : (i 0).val < 1 := (i 0).isLt; show (i 0).val < 0 + 1; omega⟩
    | ⟨1, _⟩ => exact ⟨h, h'⟩
    | ⟨2, _⟩ => exact ⟨Nat.zero_le _, by have h2 : (i 2).val < 1024 := (i 2).isLt; show (i 2).val < 0 + 1024; omega⟩
  have hi : (i 1).val < 2048 := (i 1).isLt
  have key : ∀ (y : Vec F S1x2048x1024 .f32) (o : Fin 3 → ℕ) (hy : (∀ a, o a ≤ (i a).val ∧ (i a).val < o a + S1x512x1024.size a) ∨ y i = zeroV i),
      VecWindow.put (s := S1x2048x1024) y o S1x512x1024.size (fun _ => Scalar.ofBits (F := F) .f32 0x00000000#32) i = zeroV i := by
    intro y o hy
    unfold VecWindow.put
    by_cases h : ∀ a, o a ≤ (i a).val ∧ (i a).val < o a + S1x512x1024.size a
    · rw [dif_pos h]; rfl
    · rw [dif_neg h]; exact hy.resolve_left h
  refine key _ _ ?_
  by_cases a3 : 1536 ≤ (i 1).val
  · exact Or.inl (hb 1536 a3 (by omega))
  refine Or.inr (key _ _ ?_)
  by_cases a2 : 1024 ≤ (i 1).val
  · exact Or.inl (hb 1024 a2 (by omega))
  refine Or.inr (key _ _ ?_)
  by_cases a1 : 512 ≤ (i 1).val
  · exact Or.inl (hb 512 a1 (by omega))
  refine Or.inr (key _ _ ?_)
  exact Or.inl (hb 0 (Nat.zero_le _) (by omega))

/-- The output is cleared, and the input block and the swap matrix are read. -/
theorem part22 (v25 : BitVec 32) (X0 : Vec F S2048x1024 .bf16) (X4 : Vec F S256x256 .bf16) (f : BufTy.Contents (Elt F) arg5.view.ty) :
    (iprop((arg0.view.loc (c : Thread nD τ) ↦[arg0.view.set]{fullShare} arg0.view.rep X0) ∗ (arg4.view.loc (c : Thread nD τ) ↦[arg4.view.set]{fullShare} arg4.view.rep X4)
        ∗ (arg5.view.loc (c : Thread nD τ) ↦[arg5.view.set]{fullShare} f)) : sProp 𝕄)
      ⊢ wp frame (wpE (defs₀ (F := F)) 𝒱 (c : Thread nD τ) bd) Set.univ (k0_part22 (F := F) arg0 harg0 arg1 harg1 arg2 harg2 arg3 harg3 arg4 harg4 arg5 harg5 arg6 harg6 arg7 arg8 arg9 v25)
          (fun r => iprop(⌜(r.1 : FVec F S2048x1024 .bf16) = X0 ∧ (r.2 : FVec F S256x256 .bf16) = X4⌝ ∗ (arg0.view.loc (c : Thread nD τ) ↦[arg0.view.set]{fullShare} arg0.view.rep X0) ∗ (arg4.view.loc (c : Thread nD τ) ↦[arg4.view.set]{fullShare} arg4.view.rep X4)
            ∗ ∃ f' : BufTy.Contents (Elt F) arg5.view.ty, (arg5.view.loc (c : Thread nD τ) ↦[arg5.view.set]{fullShare} f') ∗ ⌜arg5.view.read (Elt F) f' = zeroV⌝)) := by
  iintro ⟨H0, H4, H5⟩
  rw [k0_part22_eq_skeleton]
  unfold k0_part22_skel
  sl_exec
  sl_step
  isplitr
  · ipureintro
    have e0 : k0_pay87 (arg0.view.readAt (Elt F) (Rect.unit (s := S2048x1024) ![0, 0] S2048x1024.size Facts₀.inb_S2048x1024_S2048x1024_0_0).toLoadRect (arg0.view.rep X0)) = X0 := by
      unfold k0_pay87
      exact (shapeCast_self _ _).trans (View.readAt_rep_full _ _ _)
    have e4 : k0_pay88 (arg4.view.readAt (Elt F) (Rect.unit (s := S256x256) ![0, 0] S256x256.size Facts₀.inb_S256x256_S256x256_0_0).toLoadRect (arg4.view.rep X4)) = X4 := by
      unfold k0_pay88
      exact (shapeCast_self _ _).trans (View.readAt_rep_full _ _ _)
    exact ⟨e0, e4⟩
  isplitl [H0]; · iexact H0
  isplitl [H4]; · iexact H4
  iexists _
  isplitl [H5]; · iexact H5
  ipureintro
  refine (read_four arg5.view f _ _ _ _).trans (put_zero _ _ _ _ _ rfl rfl rfl rfl)

end Start

section Run

attribute [local sl_rounds] duties_bar duties_crd duties_snd0 duties_snd1 duties_snd2 duties_rcv0 duties_rcv1 duties_rcv2
  amount_bar amount_crd amount_snd0 amount_snd1 amount_snd2 amount_rcv0 amount_rcv1 amount_rcv2
  expect_bar expect_crd expect_snd0 expect_snd1 expect_snd2 expect_rcv0 expect_rcv1 expect_rcv2
  payload_barT payload_barF payload_crd payload_snd0 payload_snd1 payload_snd2 payload_rcv0 payload_rcv1 payload_rcv2

variable (𝒱 : Variants) (c : Dev nD) (bd : Option 𝒱.V)
  (arg0 : Memref sig .tc .vmem S2048x1024 .bf16) (harg0 : arg0.IsWhole) (harg1 : wM.IsWhole)
  (arg2 : Memref sig .tc .vmem S2048x256 .f32) (harg2 : arg2.IsWhole)
  (arg3 : Memref sig .tc .vmem S2048x256 .f32) (harg3 : arg3.IsWhole) (arg4 : Memref sig .tc .vmem S256x256 .bf16) (harg4 : arg4.IsWhole)
  (arg5 : Memref sig .tc .vmem S1x2048x1024 .f32) (harg5 : arg5.IsWhole) (harg6 : commM.IsWhole)
  (Ws : Dev nD → Vec F S4x1024x1024 .bf16) (κ : GSem nD τ sig → ℕ)
  (X0 : Vec F S2048x1024 .bf16) (X2 X3 : Vec F S2048x256 .f32) (X4 : Vec F S256x256 .bf16)

/-- A counted loop by its invariant, the state of the output named before and after. -/
theorem loop_run {ρ : Type} {lb ub st : BitVec 32} (hok : Scf.OK lb ub st) (body : Fin (Scf.trips lb ub st) → PUnit → Prog (TpuEff nD τ sig (Elt F) Λ₀ .tc) PUnit)
    (Lp : LoopInv frame (wpE (defs₀ (F := F)) 𝒱 (c : Thread nD τ) bd) Set.univ lb ub st hok ⟨⟩ body) (R : ρ → sProp 𝕄) (P : ρ → ℕ → Prop)
    (hinv : ∀ n u, Lp.inv n u = iprop(∃ f, R f ∗ ⌜P f n⌝)) (n : ℕ) (htr : Scf.trips lb ub st = n) (f : ρ) (h0 : P f 0) (Q : PUnit → sProp 𝕄) :
    iprop(R f ∗ (∀ f', ⌜P f' n⌝ -∗ R f' -∗ Q ⟨⟩))
      ⊢ wp frame (wpE (defs₀ (F := F)) 𝒱 (c : Thread nD τ) bd) Set.univ (Scf.for lb ub st hok ⟨⟩ body) Q := by
  have e := exec_loop_last _ _ _ _ _ _ _ _ _ Lp (Q := Q)
  simp only [hinv] at e
  subst htr
  iintro ⟨HR, Hk⟩
  iapply e $$ [HR]
  · iexists f
    isplitl [HR]; · iexact HR
    ipureintro
    exact h0
  iintro %_ ⟨%f', HR, %hf⟩
  iapply Hk $$ %f' [] HR
  ipureintro; exact hf

/-- The whole loop of hop 0: the output with the contributions of all four pairs added. -/
theorem hop1 (d0 : Dev nD) (v25 : BitVec 32) (W : Vec F S4x1024x1024 .bf16) (q : PosShare TreeShare) (f : BufTy.Contents (Elt F) arg5.view.ty) (Q : PUnit → sProp 𝕄) :
    iprop(tripRes c arg0 arg2 arg3 arg5 X0 X2 X3 W q wM f
        ∗ (∀ f', ⌜arg5.view.read (Elt F) f' = hopV X0 X0 X4 X2 X3 W (arg5.view.read (Elt F) f) 4⌝ -∗ tripRes c arg0 arg2 arg3 arg5 X0 X2 X3 W q wM f' -∗ Q ⟨⟩))
      ⊢ wp frame (wpE (defs₀ (F := F)) 𝒱 (c : Thread nD τ) bd) Set.univ (Scf.Loop.for k0_t1_loop k0_t1_ok ⟨⟩ (k0_t1_body (F := F) arg0 harg0 wM harg1 arg2 harg2 arg3 harg3 arg4 harg4 arg5 harg5 commM harg6 cc0_scratch1 cc0_scratch2 cc0_scratch3 d0 v25 X0 X4)) Q :=
  loop_run 𝒱 c bd _ _ (loop1 𝒱 c bd Set.univ arg0 harg0 wM harg1 arg2 harg2 arg3 harg3 arg4 harg4 arg5 harg5 harg6 cc0_scratch1 cc0_scratch2 cc0_scratch3 d0 v25 X0 X4 X0 X2 X3 W q f)
    (fun f => tripRes c arg0 arg2 arg3 arg5 X0 X2 X3 W q wM f) (fun f' k => arg5.view.read (Elt F) f' = hopV X0 X0 X4 X2 X3 W (arg5.view.read (Elt F) f) k)
    (fun _ _ => rfl) 4 rfl f rfl Q

/-- The whole loop of hop 1: the output with the contributions of all four pairs added. -/
theorem hop2 (d0 : Dev nD) (v14 v25 cst : BitVec 32) (W : Vec F S4x1024x1024 .bf16) (q : PosShare TreeShare) (f : BufTy.Contents (Elt F) arg5.view.ty) (Q : PUnit → sProp 𝕄) :
    iprop(tripRes c arg0 arg2 arg3 arg5 X0 X2 X3 W q slot0 f
        ∗ (∀ f', ⌜arg5.view.read (Elt F) f' = hopV X0 X0 X4 X2 X3 W (arg5.view.read (Elt F) f) 4⌝ -∗ tripRes c arg0 arg2 arg3 arg5 X0 X2 X3 W q slot0 f' -∗ Q ⟨⟩))
      ⊢ wp frame (wpE (defs₀ (F := F)) 𝒱 (c : Thread nD τ) bd) Set.univ (Scf.Loop.for k0_t2_loop k0_t2_ok ⟨⟩ (k0_t2_body (F := F) arg0 harg0 wM harg1 arg2 harg2 arg3 harg3 arg4 harg4 arg5 harg5 commM harg6 cc0_scratch1 cc0_scratch2 cc0_scratch3 d0 v14 v25 X0 X4 cst)) Q :=
  loop_run 𝒱 c bd _ _ (loop2 𝒱 c bd Set.univ arg0 harg0 wM harg1 arg2 harg2 arg3 harg3 arg4 harg4 arg5 harg5 harg6 cc0_scratch1 cc0_scratch2 cc0_scratch3 d0 v14 v25 X0 X4 cst X0 X2 X3 W q f)
    (fun f => tripRes c arg0 arg2 arg3 arg5 X0 X2 X3 W q slot0 f) (fun f' k => arg5.view.read (Elt F) f' = hopV X0 X0 X4 X2 X3 W (arg5.view.read (Elt F) f) k)
    (fun _ _ => rfl) 4 rfl f rfl Q

/-- The whole loop of hop 2: the output with the contributions of all four pairs added. -/
theorem hop3 (d0 : Dev nD) (v25 : BitVec 32) (W : Vec F S4x1024x1024 .bf16) (q : PosShare TreeShare) (f : BufTy.Contents (Elt F) arg5.view.ty) (Q : PUnit → sProp 𝕄) :
    iprop(tripRes c arg0 arg2 arg3 arg5 X0 X2 X3 W q slot1 f
        ∗ (∀ f', ⌜arg5.view.read (Elt F) f' = hopV X0 X0 X4 X2 X3 W (arg5.view.read (Elt F) f) 4⌝ -∗ tripRes c arg0 arg2 arg3 arg5 X0 X2 X3 W q slot1 f' -∗ Q ⟨⟩))
      ⊢ wp frame (wpE (defs₀ (F := F)) 𝒱 (c : Thread nD τ) bd) Set.univ (Scf.Loop.for k0_t3_loop k0_t3_ok ⟨⟩ (k0_t3_body (F := F) arg0 harg0 wM harg1 arg2 harg2 arg3 harg3 arg4 harg4 arg5 harg5 commM harg6 cc0_scratch1 cc0_scratch2 cc0_scratch3 d0 v25 X0 X4)) Q :=
  loop_run 𝒱 c bd _ _ (loop3 𝒱 c bd Set.univ arg0 harg0 wM harg1 arg2 harg2 arg3 harg3 arg4 harg4 arg5 harg5 harg6 cc0_scratch1 cc0_scratch2 cc0_scratch3 d0 v25 X0 X4 X0 X2 X3 W q f)
    (fun f => tripRes c arg0 arg2 arg3 arg5 X0 X2 X3 W q slot1 f) (fun f' k => arg5.view.read (Elt F) f' = hopV X0 X0 X4 X2 X3 W (arg5.view.read (Elt F) f) k)
    (fun _ _ => rfl) 4 rfl f rfl Q

/-- The whole loop of hop 3: the output with the contributions of all four pairs added. -/
theorem hop4 (cst : BitVec 32) (W : Vec F S4x1024x1024 .bf16) (q : PosShare TreeShare) (f : BufTy.Contents (Elt F) arg5.view.ty) (Q : PUnit → sProp 𝕄) :
    iprop(tripRes c arg0 arg2 arg3 arg5 X0 X2 X3 W q slot0 f
        ∗ (∀ f', ⌜arg5.view.read (Elt F) f' = hopV X0 X0 X4 X2 X3 W (arg5.view.read (Elt F) f) 4⌝ -∗ tripRes c arg0 arg2 arg3 arg5 X0 X2 X3 W q slot0 f' -∗ Q ⟨⟩))
      ⊢ wp frame (wpE (defs₀ (F := F)) 𝒱 (c : Thread nD τ) bd) Set.univ (Scf.Loop.for k0_t4_loop k0_t4_ok ⟨⟩ (k0_t4_body (F := F) arg0 harg0 wM harg1 arg2 harg2 arg3 harg3 arg4 harg4 arg5 harg5 commM harg6 cc0_scratch1 cc0_scratch2 cc0_scratch3 X0 X4 cst)) Q :=
  loop_run 𝒱 c bd _ _ (loop4 𝒱 c bd Set.univ arg0 harg0 wM harg1 arg2 harg2 arg3 harg3 arg4 harg4 arg5 harg5 harg6 cc0_scratch1 cc0_scratch2 cc0_scratch3 X0 X4 cst X0 X2 X3 W q f)
    (fun f => tripRes c arg0 arg2 arg3 arg5 X0 X2 X3 W q slot0 f) (fun f' k => arg5.view.read (Elt F) f' = hopV X0 X0 X4 X2 X3 W (arg5.view.read (Elt F) f) k)
    (fun _ _ => rfl) 4 rfl f rfl Q

/-- The parts of the kernel's own resources in scope of a hop, the stacks aside. -/
abbrev own5 (f : BufTy.Contents (Elt F) arg5.view.ty) : sProp 𝕄 :=
  iprop((arg0.view.loc (c : Thread nD τ) ↦[arg0.view.set]{fullShare} arg0.view.rep X0) ∗ (arg2.view.loc (c : Thread nD τ) ↦[arg2.view.set]{fullShare} arg2.view.rep X2)
    ∗ (arg3.view.loc (c : Thread nD τ) ↦[arg3.view.set]{fullShare} arg3.view.rep X3) ∗ (arg5.view.loc (c : Thread nD τ) ↦[arg5.view.set]{fullShare} f))

/-- A stack held whole is two halves. -/
theorem holds_split (m : Memref sig .tc .vmem S4x1024x1024 .bf16) (W : Vec F S4x1024x1024 .bf16) :
    holds m c fullShare W ⊢ iprop(holds m c fullShare.left W ∗ holds m c fullShare.right W) := by
  unfold holds
  exact (pointsTo_share (PosShare.mem_left_op_right fullShare)).1

/-- Two halves of a stack are the stack. -/
theorem holds_join (m : Memref sig .tc .vmem S4x1024x1024 .bf16) (W : Vec F S4x1024x1024 .bf16) :
    iprop(holds m c fullShare.left W ∗ holds m c fullShare.right W) ⊢ holds m c fullShare W := by
  unfold holds
  exact (pointsTo_share (PosShare.mem_left_op_right fullShare)).2

/-- Hop 0 and the start of hop 1's copy. -/
theorem part23 (v25 : BitVec 32) (f : BufTy.Contents (Elt F) arg5.view.ty) :
    iprop((cellInv ER (ringRd Ws) (κ (snd0 c)) (snd0 c) ∗ cellInv ER (ringRd Ws) (κ (rcv0 c)) (rcv0 c) ∗ cellInv ER (ringRd Ws) (κ (rcv0 (nxt c))) (rcv0 (nxt c))
        ∗ cellInv ER (ringRd Ws) (κ (snd1 c)) (snd1 c) ∗ cellInv ER (ringRd Ws) (κ (rcv1 (nxt c))) (rcv1 (nxt c))
        ∗ reached ER (snd0 c) 0 ∗ reached ER (rcv0 (nxt c)) 0 ∗ reached ER (snd1 c) 0 ∗ reached ER (rcv1 (nxt c)) 0 ∗ levAts L lv)
        ∗ dutyTok ER (snd0 c) 0 false ∗ dutyTok ER (rcv0 (nxt c)) 0 false ∗ dutyTok ER (snd1 c) 0 false ∗ dutyTok ER (rcv1 (nxt c)) 0 false
        ∗ atPos ER (snd0 c) 0 ∅ 0 ∗ atPos ER (rcv0 c) 0 ∅ 0 ∗ cred (tallyAt (rcv0 c) () N)
        ∗ holds wM c fullShare (Ws c) ∗ own5 c arg0 arg2 arg3 arg5 X0 X2 X3 f ∗ free slot0 (nxt c) ∗ free slot1 (nxt c) ∗ owing c (O₄ c))
      ⊢ wp frame (wpE (defs₀ (F := F)) 𝒱 (c : Thread nD τ) bd) Set.univ (k0_part23 (F := F) arg0 harg0 wM harg1 arg2 harg2 arg3 harg3 arg4 harg4 arg5 harg5 commM harg6 cc0_scratch1 cc0_scratch2 cc0_scratch3 c v25 X0 X4)
        (fun _ => iprop(atPos ER (snd0 c) (0 + 1) ∅ 0 ∗ atPos ER (rcv0 c) (0 + 1) ∅ 0 ∗ cred (tallyAt (snd1 c) () N)
          ∗ holds wM c fullShare (Ws c) ∗ holds slot0 c fullShare.right (Ws (prv c)) ∗ owing c (O₂ c)
          ∗ ∃ f', ⌜arg5.view.read (Elt F) f' = hopV X0 X0 X4 X2 X3 (Ws c) (arg5.view.read (Elt F) f) 4⌝ ∗ own5 c arg0 arg2 arg3 arg5 X0 X2 X3 f')) := by
  rw [k0_part23_eq_skeleton]
  unfold k0_part23_skel
  simp only [wp_bind]
  iintro ⟨⟨#HIs0, #HIr0, #HIr0n, #HIs1, #HIr1n, #Rs0, #Rr0n, #Rs1, #Rr1n, #Hlev⟩, Ts0, Tr0n, Ts1, Tr1n, As0, Ar0, Cr0, HW, ⟨H0, H2, H3, H5⟩, F0, F1, HO⟩
  ihave ⟨HWl, HWr⟩ := (holds_split c wM (Ws c)) $$ HW
  iapply (send_step 𝒱 c bd Ws κ (dev3_eq c) _ _ _ _ (Ws c) (by rw [duties_snd0]; decide) (by rw [duties_rcv0]; decide) rfl (by rw [payload_rcv0, prv_nxt]) (O₄ c) (O₃ c) rfl)
  isplitr; · iexact HIs0
  isplitr; · iexact HIr0n
  isplitl [HWl]; · iexact HWl
  isplitl [F0]; · iexact F0
  isplitl [HO]; · iexact HO
  isplitl [Ts0]; · iexact Ts0
  isplitr; · iexact Rs0
  isplitl [Tr0n]; · iexact Tr0n
  isplitr; · iexact Rr0n
  iintro Cs0 HO
  iapply (hop1 𝒱 c bd arg0 harg0 harg1 arg2 harg2 arg3 harg3 arg4 harg4 arg5 harg5 harg6 X0 X2 X3 X4 c v25 (Ws c) fullShare.right f)
  isplitl [H0 H2 H3 H5 HWr]
  · isplitl [H0]; · iexact H0
    isplitl [H2]; · iexact H2
    isplitl [H3]; · iexact H3
    isplitl [HWr]; · iexact HWr
    iexact H5
  iintro %f' %hf ⟨H0, H2, H3, HWr, H5⟩
  iapply (wait_step 𝒱 c bd Ws κ _ _ (duties_snd0 Ws c) (holds wM c fullShare.left (Ws c)) rfl (O₃ c) (above3 c (by decide)))
  isplitr; · iexact HIs0
  isplitl [Cs0]; · iexact Cs0
  isplitl [HO]; · iexact HO
  isplitr; · iexact Hlev
  isplitl [As0]; · iexact As0
  iintro HWl As0 HO
  iapply (wait_step 𝒱 c bd Ws κ _ _ (duties_rcv0 Ws c) (holds slot0 c fullShare (Ws (prv c))) rfl (O₃ c) (above3 c (by decide)))
  isplitr; · iexact HIr0
  isplitl [Cr0]; · iexact Cr0
  isplitl [HO]; · iexact HO
  isplitr; · iexact Hlev
  isplitl [Ar0]; · iexact Ar0
  iintro HS Ar0 HO
  ihave ⟨HSl, HSr⟩ := (holds_split c slot0 (Ws (prv c))) $$ HS
  iapply (send_step 𝒱 c bd Ws κ (dev4_eq c) _ _ _ _ (Ws (prv c)) (by rw [duties_snd1]; decide) (by rw [duties_rcv1]; decide) rfl (by rw [payload_rcv1, prv_nxt]) (O₃ c) (O₂ c) rfl)
  isplitr; · iexact HIs1
  isplitr; · iexact HIr1n
  isplitl [HSl]; · iexact HSl
  isplitl [F1]; · iexact F1
  isplitl [HO]; · iexact HO
  isplitl [Ts1]; · iexact Ts1
  isplitr; · iexact Rs1
  isplitl [Tr1n]; · iexact Tr1n
  isplitr; · iexact Rr1n
  iintro Cs1 HO
  sl_step
  isplitl [As0]; · iexact As0
  isplitl [Ar0]; · iexact Ar0
  isplitl [Cs1]; · iexact Cs1
  isplitl [HWl HWr]
  · iapply (holds_join c wM (Ws c))
    isplitl [HWl]; · iexact HWl
    iexact HWr
  isplitl [HSr]; · iexact HSr
  isplitl [HO]; · iexact HO
  iexists f'
  isplitr; · ipureintro; exact hf
  isplitl [H0]; · iexact H0
  isplitl [H2]; · iexact H2
  isplitl [H3]; · iexact H3
  iexact H5

/-- The handshake: both neighbours are told, and both have told. -/
theorem part21 :
    iprop((cellInv ER (ringRd Ws) (κ (barCell (prv c))) (barCell (prv c)) ∗ cellInv ER (ringRd Ws) (κ (barCell (nxt c))) (barCell (nxt c))
        ∗ cellInv ER (ringRd Ws) (κ (barCell c)) (barCell c) ∗ reached ER (barCell (prv c)) 0 ∗ reached ER (barCell (nxt c)) 0 ∗ levAts L lv)
        ∗ dutyTok ER (barCell (prv c)) 0 true ∗ dutyTok ER (barCell (nxt c)) 0 false
        ∗ barPay (F := F) (prv c) ∗ barPay' (F := F) (nxt c)
        ∗ atPos ER (barCell c) 0 ∅ 0 ∗ cred (tallyAt (barCell c) () 2)
        ∗ owing c (O₀ c))
      ⊢ wp frame (wpE (defs₀ (F := F)) 𝒱 (c : Thread nD τ) bd) Set.univ (k0_part21 (F := F) arg0 harg0 wM harg1 arg2 harg2 arg3 harg3 arg4 harg4 arg5 harg5 commM harg6 cc0_scratch1 cc0_scratch2 cc0_scratch3)
        (fun r => iprop(⌜r.1 = c⌝ ∗ barPay (F := F) c ∗ barPay' (F := F) c ∗ atPos ER (barCell c) (0 + 1) ∅ 0 ∗ owing c (O₄ c))) := by
  have hd1 := dev1_eq c
  have hd2 := dev2_eq c
  have hmw := mayWait (F := F) c (.reg barS) (O₄ c) (above4 c (by decide))
  unfold O₀ O₅
  iintro ⟨⟨#HIp, #HIn, #HI, #Hrp, #Hrn, #Hlev⟩, Htp, Htn, Hpp, Hpn, Hat, Hc, ⟨%W, HO⟩⟩
  unfold k0_part21
  sl_exec
  sl_step
  ihave ⟨HA, HB⟩ := (show (BI.sep (barPay' (F := F) c) (barPay c) : sProp 𝕄) ⊢ iprop(barPay' (F := F) c ∗ barPay c) from .rfl) $$ Hat_pay1
  isplitr; · ipureintro; rfl
  isplitl [HB]; · iexact HB
  isplitl [HA]; · iexact HA
  isplitl [Hat]; · iexact Hat
  iexists _
  iexact HO

/-- The credit: slot 0 is given back to the left neighbour, and the right neighbour's is awaited. -/
theorem credit (Q : PUnit → sProp 𝕄) :
    iprop((cellInv ER (ringRd Ws) (κ (crdCell (prv c))) (crdCell (prv c)) ∗ cellInv ER (ringRd Ws) (κ (crdCell c)) (crdCell c)
        ∗ reached ER (crdCell (prv c)) 0 ∗ levAts L lv)
        ∗ dutyTok ER (crdCell (prv c)) 0 false ∗ free slot0 c ∗ atPos ER (crdCell c) 0 ∅ 0 ∗ cred (tallyAt (crdCell c) () 1) ∗ owing c (O₂ c)
        ∗ (free slot0 (nxt c) -∗ atPos ER (crdCell c) (0 + 1) ∅ 0 -∗ owing c (O₁ c) -∗ Q ⟨⟩))
      ⊢ wp frame (wpE (defs₀ (F := F)) 𝒱 (c : Thread nD τ) bd) Set.univ (semSignalWord (⟨k0_dev5 c, k0_dev5_lt c⟩ : Dev nD) cc0_scratch3.sem 1#32)
          (fun _ => wp frame (wpE (defs₀ (F := F)) 𝒱 (c : Thread nD τ) bd) Set.univ (semWaitWord cc0_scratch3.sem 1#32) Q) := by
  have hd5 := dev5_eq c
  have hmw := mayWait (F := F) c (.reg crdS) (O₁ c) (above1 c (by decide))
  have hp : (ringRd Ws).payload (crdCell (prv c)) 0 false = free slot0 c := by rw [payload_crd, nxt_prv]
  have hs : cc0_scratch3.sem = crdS := rfl
  have hrest : bigSep ((ringRd Ws).duties (crdCell c) 0 \ ∅) (fun u => (ringRd Ws).payload (crdCell c) 0 u) = free slot0 (nxt c) := by
    rw [Finset.sdiff_empty, duties_crd, bigSep_singleton, payload_crd]
  have e1 : semSignalWord (prv c) crdS 1#32 = (Prog.op (.semSignal (prv c : Thread nD τ) crdS ((1 : ℕ) : ℤ)) .ret : Prog (TpuEff nD τ sig (Elt F) Λ₀ .tc) PUnit) := rfl
  have e2 : semWaitWord crdS 1#32 = (Prog.op (.semWait crdS ((1 : ℕ) : ℤ)) .ret : Prog (TpuEff nD τ sig (Elt F) Λ₀ .tc) PUnit) := rfl
  rw [hd5, hs, e1, e2]
  unfold O₂
  iintro ⟨⟨#HIp, #HI, #Hrp, #Hlev⟩, Ht, Hf, Hat, Hc, ⟨%W, HO⟩, Hk⟩
  iapply (Rounds.wp_signal 𝒱 ER (ringRd Ws) (c : Thread nD τ) bd (dst := (prv c : Thread nD τ)) (sem := crdS) (r := 0) (d := false) (k' := 1) (κ := κ (crdCell (prv c)))
      (by rw [duties_crd]; exact Finset.mem_singleton_self _) (amount_crd Ws (prv c) false) () (O₁ c) rfl) $$ [HO Ht Hf]
  · isplitr; · iexact HIp
    isplitl [HO]; · iexact HO
    isplitl [Ht]; · iexact Ht
    isplitl [Hf]; · iapply (Entails.of_eq hp.symm); iexact Hf
    iexact Hrp
  iintro HO
  sl_step
  iapply (Rounds.wp_wait_rest_token 𝒱 ER (ringRd Ws) (c : Thread nD τ) bd (κ := κ (crdCell c))
      (wpE_semWait_eq 𝒱 (c : Thread nD τ) bd Set.univ) (Set.mem_univ _) () (O := O₁ c) (W := W) (R := 0) (m := 0) (T := ∅)
      ((Nat.zero_add 1).trans (expect_crd Ws c).symm)) $$ [Hc HO Hat]
  · isplitr; · iexact HI
    isplitl [Hc]; · iexact Hc
    isplitl [HO]; · iexact HO
    isplitr; · iapply hmw; iexact Hlev
    iexact Hat
  iintro ⟨HO, Hat, -, Hp⟩
  ihave Hq := (Entails.of_eq hrest) $$ Hp
  sl_step
  iapply Hk $$ Hq Hat
  iexists _
  iexact HO

/-- Hop 1 and the credit. -/
theorem part24 (v14 v25 cst : BitVec 32) (f : BufTy.Contents (Elt F) arg5.view.ty) :
    iprop((cellInv ER (ringRd Ws) (κ (snd1 c)) (snd1 c) ∗ cellInv ER (ringRd Ws) (κ (rcv1 c)) (rcv1 c) ∗ cellInv ER (ringRd Ws) (κ (crdCell (prv c))) (crdCell (prv c))
        ∗ cellInv ER (ringRd Ws) (κ (crdCell c)) (crdCell c) ∗ reached ER (crdCell (prv c)) 0 ∗ levAts L lv)
        ∗ dutyTok ER (crdCell (prv c)) 0 false
        ∗ atPos ER (snd1 c) 0 ∅ 0 ∗ atPos ER (rcv1 c) 0 ∅ 0 ∗ atPos ER (crdCell c) 0 ∅ 0
        ∗ cred (tallyAt (snd1 c) () N) ∗ cred (tallyAt (rcv1 c) () N) ∗ cred (tallyAt (crdCell c) () 1)
        ∗ own5 c arg0 arg2 arg3 arg5 X0 X2 X3 f ∗ holds slot0 c fullShare.right (Ws (prv c)) ∗ owing c (O₂ c))
      ⊢ wp frame (wpE (defs₀ (F := F)) 𝒱 (c : Thread nD τ) bd) Set.univ (k0_part24 (F := F) arg0 harg0 wM harg1 arg2 harg2 arg3 harg3 arg4 harg4 arg5 harg5 commM harg6 cc0_scratch1 cc0_scratch2 cc0_scratch3 c v14 v25 X0 X4 cst)
        (fun _ => iprop(atPos ER (snd1 c) (0 + 1) ∅ 0 ∗ atPos ER (rcv1 c) (0 + 1) ∅ 0 ∗ atPos ER (crdCell c) (0 + 1) ∅ 0
          ∗ holds slot1 c fullShare (Ws (prv (prv c))) ∗ free slot0 (nxt c) ∗ owing c (O₁ c)
          ∗ ∃ f', ⌜arg5.view.read (Elt F) f' = hopV X0 X0 X4 X2 X3 (Ws (prv c)) (arg5.view.read (Elt F) f) 4⌝ ∗ own5 c arg0 arg2 arg3 arg5 X0 X2 X3 f')) := by
  rw [k0_part24_eq_skeleton]
  unfold k0_part24_skel
  simp only [wp_bind]
  iintro ⟨⟨#HIs1, #HIr1, #HIcp, #HIc, #Rcp, #Hlev⟩, Tc, As1, Ar1, Ac, Cs1, Cr1, Cc, ⟨H0, H2, H3, H5⟩, HSr, HO⟩
  iapply (hop2 𝒱 c bd arg0 harg0 harg1 arg2 harg2 arg3 harg3 arg4 harg4 arg5 harg5 harg6 X0 X2 X3 X4 c v14 v25 cst (Ws (prv c)) fullShare.right f)
  isplitl [H0 H2 H3 H5 HSr]
  · isplitl [H0]; · iexact H0
    isplitl [H2]; · iexact H2
    isplitl [H3]; · iexact H3
    isplitl [HSr]; · iexact HSr
    iexact H5
  iintro %f' %hf ⟨H0, H2, H3, HSr, H5⟩
  iapply (wait_step 𝒱 c bd Ws κ _ _ (duties_snd1 Ws c) (holds slot0 c fullShare.left (Ws (prv c))) rfl (O₂ c) (above2 c (by decide)))
  isplitr; · iexact HIs1
  isplitl [Cs1]; · iexact Cs1
  isplitl [HO]; · iexact HO
  isplitr; · iexact Hlev
  isplitl [As1]; · iexact As1
  iintro HSl As1 HO
  iapply (wait_step 𝒱 c bd Ws κ _ _ (duties_rcv1 Ws c) (holds slot1 c fullShare (Ws (prv (prv c)))) rfl (O₂ c) (above2 c (by decide)))
  isplitr; · iexact HIr1
  isplitl [Cr1]; · iexact Cr1
  isplitl [HO]; · iexact HO
  isplitr; · iexact Hlev
  isplitl [Ar1]; · iexact Ar1
  iintro HS1 Ar1 HO
  ihave HS := (holds_join c slot0 (Ws (prv c))) $$ [HSl HSr]
  · isplitl [HSl]; · iexact HSl
    iexact HSr
  iapply (credit 𝒱 c bd Ws κ)
  isplitr
  · isplitr; · iexact HIcp
    isplitr; · iexact HIc
    isplitr; · iexact Rcp
    iexact Hlev
  isplitl [Tc]; · iexact Tc
  isplitl [HS]; · iexists _; iexact HS
  isplitl [Ac]; · iexact Ac
  isplitl [Cc]; · iexact Cc
  isplitl [HO]; · iexact HO
  iintro HF Ac HO
  sl_step
  isplitl [As1]; · iexact As1
  isplitl [Ar1]; · iexact Ar1
  isplitl [Ac]; · iexact Ac
  isplitl [HS1]; · iexact HS1
  isplitl [HF]; · iexact HF
  isplitl [HO]; · iexact HO
  iexists f'
  isplitr; · ipureintro; exact hf
  isplitl [H0]; · iexact H0
  isplitl [H2]; · iexact H2
  isplitl [H3]; · iexact H3
  iexact H5

/-- Nothing owed is above every level. -/
theorem above0 (n : ℕ) : Above n 0 := fun _ _ h => absurd h (Nat.lt_irrefl 0)

/-- Hop 2. -/
theorem part25 (v25 : BitVec 32) (f : BufTy.Contents (Elt F) arg5.view.ty) :
    iprop((cellInv ER (ringRd Ws) (κ (snd2 c)) (snd2 c) ∗ cellInv ER (ringRd Ws) (κ (rcv2 c)) (rcv2 c) ∗ cellInv ER (ringRd Ws) (κ (rcv2 (nxt c))) (rcv2 (nxt c))
        ∗ reached ER (snd2 c) 0 ∗ reached ER (rcv2 (nxt c)) 0 ∗ levAts L lv)
        ∗ dutyTok ER (snd2 c) 0 false ∗ dutyTok ER (rcv2 (nxt c)) 0 false
        ∗ atPos ER (snd2 c) 0 ∅ 0 ∗ atPos ER (rcv2 c) 0 ∅ 0 ∗ cred (tallyAt (rcv2 c) () N)
        ∗ own5 c arg0 arg2 arg3 arg5 X0 X2 X3 f ∗ holds slot1 c fullShare (Ws (prv (prv c))) ∗ free slot0 (nxt c) ∗ owing c (O₁ c))
      ⊢ wp frame (wpE (defs₀ (F := F)) 𝒱 (c : Thread nD τ) bd) Set.univ (k0_part25 (F := F) arg0 harg0 wM harg1 arg2 harg2 arg3 harg3 arg4 harg4 arg5 harg5 commM harg6 cc0_scratch1 cc0_scratch2 cc0_scratch3 c v25 X0 X4)
        (fun _ => iprop(atPos ER (snd2 c) (0 + 1) ∅ 0 ∗ atPos ER (rcv2 c) (0 + 1) ∅ 0
          ∗ holds slot1 c fullShare (Ws (prv (prv c))) ∗ holds slot0 c fullShare (Ws (prv (prv (prv c)))) ∗ owing c 0
          ∗ ∃ f', ⌜arg5.view.read (Elt F) f' = hopV X0 X0 X4 X2 X3 (Ws (prv (prv c))) (arg5.view.read (Elt F) f) 4⌝ ∗ own5 c arg0 arg2 arg3 arg5 X0 X2 X3 f')) := by
  rw [k0_part25_eq_skeleton]
  unfold k0_part25_skel
  simp only [wp_bind]
  iintro ⟨⟨#HIs2, #HIr2, #HIr2n, #Rs2, #Rr2n, #Hlev⟩, Ts2, Tr2n, As2, Ar2, Cr2, ⟨H0, H2, H3, H5⟩, HS1, HF, HO⟩
  ihave ⟨HSl, HSr⟩ := (holds_split c slot1 (Ws (prv (prv c)))) $$ HS1
  iapply (send_step 𝒱 c bd Ws κ (dev6_eq c) _ _ _ _ (Ws (prv (prv c))) (by rw [duties_snd2]; decide) (by rw [duties_rcv2]; decide) rfl (by rw [payload_rcv2, prv_nxt]) (O₁ c) 0 (zero_add _).symm)
  isplitr; · iexact HIs2
  isplitr; · iexact HIr2n
  isplitl [HSl]; · iexact HSl
  isplitl [HF]; · iexact HF
  isplitl [HO]; · iexact HO
  isplitl [Ts2]; · iexact Ts2
  isplitr; · iexact Rs2
  isplitl [Tr2n]; · iexact Tr2n
  isplitr; · iexact Rr2n
  iintro Cs2 HO
  iapply (hop3 𝒱 c bd arg0 harg0 harg1 arg2 harg2 arg3 harg3 arg4 harg4 arg5 harg5 harg6 X0 X2 X3 X4 c v25 (Ws (prv (prv c))) fullShare.right f)
  isplitl [H0 H2 H3 H5 HSr]
  · isplitl [H0]; · iexact H0
    isplitl [H2]; · iexact H2
    isplitl [H3]; · iexact H3
    isplitl [HSr]; · iexact HSr
    iexact H5
  iintro %f' %hf ⟨H0, H2, H3, HSr, H5⟩
  iapply (wait_step 𝒱 c bd Ws κ _ _ (duties_snd2 Ws c) (holds slot1 c fullShare.left (Ws (prv (prv c)))) rfl 0 (above0 _))
  isplitr; · iexact HIs2
  isplitl [Cs2]; · iexact Cs2
  isplitl [HO]; · iexact HO
  isplitr; · iexact Hlev
  isplitl [As2]; · iexact As2
  iintro HSl As2 HO
  iapply (wait_step 𝒱 c bd Ws κ _ _ (duties_rcv2 Ws c) (holds slot0 c fullShare (Ws (prv (prv (prv c))))) rfl 0 (above0 _))
  isplitr; · iexact HIr2
  isplitl [Cr2]; · iexact Cr2
  isplitl [HO]; · iexact HO
  isplitr; · iexact Hlev
  isplitl [Ar2]; · iexact Ar2
  iintro HS0 Ar2 HO
  sl_step
  isplitl [As2]; · iexact As2
  isplitl [Ar2]; · iexact Ar2
  isplitl [HSl HSr]
  · iapply (holds_join c slot1 (Ws (prv (prv c))))
    isplitl [HSl]; · iexact HSl
    iexact HSr
  isplitl [HS0]; · iexact HS0
  isplitl [HO]; · iexact HO
  iexists f'
  isplitr; · ipureintro; exact hf
  isplitl [H0]; · iexact H0
  isplitl [H2]; · iexact H2
  isplitl [H3]; · iexact H3
  iexact H5

end Run

end Cert.KernelIdeal

end
-- ==== Proof.Talk.lean ====
/- The body as an obligation of the call, with what a device starts from and ends in. -/
module

public import proofs.«01_k».proof.Proof.Body

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## What a device carries into the region and out of it -/

/-- The invariants device `c` opens: those of its own cells, and those of the neighbours' cells it pays. -/
def invs (Ws : Dev nD → Vec F S4x1024x1024 .bf16) (κ : GSem nD τ sig → ℕ) (c : Dev nD) : sProp 𝕄 :=
  iprop((cellInv ER (ringRd Ws) (κ (barCell c)) (barCell c) ∗ cellInv ER (ringRd Ws) (κ (crdCell c)) (crdCell c)
      ∗ cellInv ER (ringRd Ws) (κ (snd0 c)) (snd0 c) ∗ cellInv ER (ringRd Ws) (κ (snd1 c)) (snd1 c) ∗ cellInv ER (ringRd Ws) (κ (snd2 c)) (snd2 c)
      ∗ cellInv ER (ringRd Ws) (κ (rcv0 c)) (rcv0 c) ∗ cellInv ER (ringRd Ws) (κ (rcv1 c)) (rcv1 c) ∗ cellInv ER (ringRd Ws) (κ (rcv2 c)) (rcv2 c))
    ∗ cellInv ER (ringRd Ws) (κ (barCell (prv c))) (barCell (prv c)) ∗ cellInv ER (ringRd Ws) (κ (barCell (nxt c))) (barCell (nxt c))
    ∗ cellInv ER (ringRd Ws) (κ (crdCell (prv c))) (crdCell (prv c))
    ∗ cellInv ER (ringRd Ws) (κ (rcv0 (nxt c))) (rcv0 (nxt c)) ∗ cellInv ER (ringRd Ws) (κ (rcv1 (nxt c))) (rcv1 (nxt c))
    ∗ cellInv ER (ringRd Ws) (κ (rcv2 (nxt c))) (rcv2 (nxt c)))

instance invs_persistent (Ws : Dev nD → Vec F S4x1024x1024 .bf16) (κ : GSem nD τ sig → ℕ) (c : Dev nD) : BI.Persistent (invs Ws κ c) := by
  unfold invs; infer_instance

/-- The tokens of the duties device `c` pays. -/
def tokens (c : Dev nD) : sProp 𝕄 :=
  iprop(dutyTok ER (barCell (prv c)) 0 true ∗ dutyTok ER (barCell (nxt c)) 0 false ∗ dutyTok ER (crdCell (prv c)) 0 false
    ∗ dutyTok ER (snd0 c) 0 false ∗ dutyTok ER (snd1 c) 0 false ∗ dutyTok ER (snd2 c) 0 false
    ∗ dutyTok ER (rcv0 (nxt c)) 0 false ∗ dutyTok ER (rcv1 (nxt c)) 0 false ∗ dutyTok ER (rcv2 (nxt c)) 0 false)

/-- The credits device `c` waits with. -/
def credits (c : Dev nD) : sProp 𝕄 :=
  iprop(cred (tallyAt (barCell c) () 2) ∗ cred (tallyAt (crdCell c) () 1)
    ∗ cred (tallyAt (rcv0 c) () N) ∗ cred (tallyAt (rcv1 c) () N) ∗ cred (tallyAt (rcv2 c) () N))

/-- Device `c` with all its cells open, at their first round. -/
def opened (Ws : Dev nD → Vec F S4x1024x1024 .bf16) (κ : GSem nD τ sig → ℕ) (c : Dev nD) : sProp 𝕄 :=
  iprop(invs Ws κ c
    ∗ (atPos ER (barCell c) 0 ∅ 0 ∗ atPos ER (crdCell c) 0 ∅ 0 ∗ atPos ER (snd0 c) 0 ∅ 0 ∗ atPos ER (snd1 c) 0 ∅ 0 ∗ atPos ER (snd2 c) 0 ∅ 0
      ∗ atPos ER (rcv0 c) 0 ∅ 0 ∗ atPos ER (rcv1 c) 0 ∅ 0 ∗ atPos ER (rcv2 c) 0 ∅ 0)
    ∗ (reached ER (barCell (prv c)) 0 ∗ reached ER (barCell (nxt c)) 0 ∗ reached ER (crdCell c) 0
      ∗ reached ER (snd0 c) 0 ∗ reached ER (snd1 c) 0 ∗ reached ER (snd2 c) 0
      ∗ reached ER (rcv0 c) 0 ∗ reached ER (rcv1 c) 0 ∗ reached ER (rcv2 c) 0)
    ∗ tokens c)

/-- All counters of the scoped cells of `c` back at zero. -/
def zeros (c : Dev nD) : sProp 𝕄 :=
  iprop(semVal (crdCell c) 0 ∗ (semVal (snd0 c) 0 ∗ semVal (snd1 c) 0 ∗ semVal (snd2 c) 0)
    ∗ semVal (rcv0 c) 0 ∗ semVal (rcv1 c) 0 ∗ semVal (rcv2 c) 0)

section Whole

variable (𝒱 : Variants) (c : Dev nD) (bd : Option 𝒱.V)
  (arg0 : Memref sig .tc .vmem S2048x1024 .bf16) (harg0 : arg0.IsWhole) (harg1 : wM.IsWhole)
  (arg2 : Memref sig .tc .vmem S2048x256 .f32) (harg2 : arg2.IsWhole)
  (arg3 : Memref sig .tc .vmem S2048x256 .f32) (harg3 : arg3.IsWhole) (arg4 : Memref sig .tc .vmem S256x256 .bf16) (harg4 : arg4.IsWhole)
  (arg5 : Memref sig .tc .vmem S1x2048x1024 .f32) (harg5 : arg5.IsWhole) (harg6 : commM.IsWhole)
  (X0 : Vec F S2048x1024 .bf16) (X2 X3 : Vec F S2048x256 .f32) (X4 : Vec F S256x256 .bf16)
  (Ws : Dev nD → Vec F S4x1024x1024 .bf16) (κ : GSem nD τ sig → ℕ)

/-- The staged blocks the body reads, the output aside. -/
abbrev ins : sProp 𝕄 :=
  iprop((arg0.view.loc (c : Thread nD τ) ↦[arg0.view.set]{fullShare} arg0.view.rep X0) ∗ holds wM c fullShare (Ws c)
    ∗ (arg2.view.loc (c : Thread nD τ) ↦[arg2.view.set]{fullShare} arg2.view.rep X2)
    ∗ (arg3.view.loc (c : Thread nD τ) ↦[arg3.view.set]{fullShare} arg3.view.rep X3)
    ∗ (arg4.view.loc (c : Thread nD τ) ↦[arg4.view.set]{fullShare} arg4.view.rep X4))

/-- A cell past its one round is closed: its counter is back at zero. -/
theorem close (k : ℕ) (g : GSem nD τ sig) :
    iprop(cellInv ER (ringRd Ws) k g ∗ atPos ER g (0 + 1) ∅ 0) ⊢ (|={Set.univ}=> semVal g 0 : sProp 𝕄) :=
  Rounds.cell_close ER (ringRd Ws) (Set.mem_univ k) id (duties_later Ws g)

/-- The whole body of device `c`: the four hops, with the stacks of the ring arriving one after the other. -/
theorem talk (f : BufTy.Contents (Elt F) arg5.view.ty) (Q : PUnit → sProp 𝕄) :
    iprop((opened Ws κ c ∗ credits c ∗ levAts L lv ∗ free slot0 c ∗ free slot1 c ∗ ins c arg0 arg2 arg3 arg4 X0 X2 X3 X4 Ws
        ∗ (arg5.view.loc (c : Thread nD τ) ↦[arg5.view.set]{fullShare} f) ∗ owing c (O₀ c))
      ∗ ((semVal (barCell c) 0 ∗ zeros c ∗ free slot0 c ∗ free slot1 c ∗ ins c arg0 arg2 arg3 arg4 X0 X2 X3 X4 Ws
        ∗ (∃ f', ⌜arg5.view.read (Elt F) f' = outV X0 X4 X2 X3 (Ws c) (Ws (prv c)) (Ws (prv (prv c))) (Ws (prv (prv (prv c))))⌝
            ∗ (arg5.view.loc (c : Thread nD τ) ↦[arg5.view.set]{fullShare} f'))
        ∗ owing c 0) -∗ Q ⟨⟩))
      ⊢ wp frame (wpE (defs₀ (F := F)) 𝒱 (c : Thread nD τ) bd) Set.univ (cc0_body (F := F) arg0 harg0 wM harg1 arg2 harg2 arg3 harg3 arg4 harg4 arg5 harg5 commM harg6 cc0_scratch1 cc0_scratch2 cc0_scratch3) Q := by
  rw [cc0_body_eq_skeleton]
  unfold cc0_body_skel
  simp only [wp_bind]
  unfold opened invs tokens credits
  iintro ⟨⟨⟨⟨⟨#Ib, #Ic, #Is0, #Is1, #Is2, #Ir0, #Ir1, #Ir2⟩, #Ibp, #Ibn, #Icp, #Ir0n, #Ir1n, #Ir2n⟩,
      ⟨Ab, Ac, As0, As1, As2, Ar0, Ar1, Ar2⟩, ⟨#Rbp, #Rbn, #Rc, #Rs0, #Rs1, #Rs2, #Rr0, #Rr1, #Rr2⟩,
      Tbp, Tbn, Tcp, Ts0, Ts1, Ts2, Tr0n, Tr1n, Tr2n⟩, ⟨Cb, Cc, Cr0, Cr1, Cr2⟩, #Hlev, F0, F1, ⟨H0, HW, H2, H3, H4⟩, H5, HO⟩, Hk⟩
  iapply (wp_wand_r Idealize.ShloMosaic.frame (wpE (defs₀ (F := F)) 𝒱 (c : Thread nD τ) bd) Set.univ)
  isplitl [Ab Tbp Tbn F0 F1 Cb HO]
  · iapply (part21 𝒱 c bd arg0 harg0 harg1 arg2 harg2 arg3 harg3 arg4 harg4 arg5 harg5 harg6 Ws κ)
    isplitr
    · isplitr; · iexact Ibp
      isplitr; · iexact Ibn
      isplitr; · iexact Ib
      isplitr; · iexact Rbp
      isplitr; · iexact Rbn
      iexact Hlev
    isplitl [Tbp]; · iexact Tbp
    isplitl [Tbn]; · iexact Tbn
    isplitl [F0 F1]
    · unfold barPay; rw [nxt_prv]
      isplitl [F0]; · iexact F0
      isplitl [F1]; · iexact F1
      isplitr; · iexact Rr0
      isplitr; · iexact Rr1
      iexact Rr2
    isplitr
    · unfold barPay'; rw [prv_nxt]; iexact Rc
    isplitl [Ab]; · iexact Ab
    isplitl [Cb]; · iexact Cb
    iexact HO
  iintro %r ⟨%hr, Hp, Hp', Ab, HO⟩
  obtain ⟨d0, v14, v25⟩ := r
  have hr' : c = d0 := hr.symm
  subst hr'
  unfold barPay barPay'
  icases Hp with ⟨F0, F1, #Rr0n, #Rr1n, #Rr2n⟩
  ihave #Rcp := (show (reached ER (crdCell (prv c)) 0 : sProp 𝕄) ⊢ reached ER (crdCell (prv c)) 0 from .rfl) $$ Hp'
  iapply (wp_wand_r Idealize.ShloMosaic.frame (wpE (defs₀ (F := F)) 𝒱 (c : Thread nD τ) bd) Set.univ)
  isplitl [H0 H4 H5]
  · iapply (part22 𝒱 c bd arg0 harg0 wM harg1 arg2 harg2 arg3 harg3 arg4 harg4 arg5 harg5 commM harg6 cc0_scratch1 cc0_scratch2 cc0_scratch3 v25 X0 X4 f)
    isplitl [H0]; · iexact H0
    isplitl [H4]; · iexact H4
    iexact H5
  iintro %r ⟨%hr, H0, H4, %f0, H5, %hf0⟩
  obtain ⟨v48, v50⟩ := r
  obtain ⟨h48, h50⟩ := hr
  dsimp only at h48 h50
  subst h48 h50
  iapply (wp_wand_r Idealize.ShloMosaic.frame (wpE (defs₀ (F := F)) 𝒱 (c : Thread nD τ) bd) Set.univ)
  isplitl [Ts0 Tr0n Ts1 Tr1n As0 Ar0 Cr0 HW H0 H2 H3 H5 F0 F1 HO]
  · iapply (part23 𝒱 c bd arg0 harg0 harg1 arg2 harg2 arg3 harg3 arg4 harg4 arg5 harg5 harg6 Ws κ v48 X2 X3 v50 v25 f0)
    isplitr
    · isplitr; · iexact Is0
      isplitr; · iexact Ir0
      isplitr; · iexact Ir0n
      isplitr; · iexact Is1
      isplitr; · iexact Ir1n
      isplitr; · iexact Rs0
      isplitr; · iexact Rr0n
      isplitr; · iexact Rs1
      isplitr; · iexact Rr1n
      iexact Hlev
    isplitl [Ts0]; · iexact Ts0
    isplitl [Tr0n]; · iexact Tr0n
    isplitl [Ts1]; · iexact Ts1
    isplitl [Tr1n]; · iexact Tr1n
    isplitl [As0]; · iexact As0
    isplitl [Ar0]; · iexact Ar0
    isplitl [Cr0]; · iexact Cr0
    isplitl [HW]; · iexact HW
    isplitl [H0 H2 H3 H5]
    · isplitl [H0]; · iexact H0
      isplitl [H2]; · iexact H2
      isplitl [H3]; · iexact H3
      iexact H5
    isplitl [F0]; · iexact F0
    isplitl [F1]; · iexact F1
    iexact HO
  iintro %cst ⟨As0, Ar0, Cs1, HW, HS0, HO, %f1, %hf1, H0, H2, H3, H5⟩
  iapply (wp_wand_r Idealize.ShloMosaic.frame (wpE (defs₀ (F := F)) 𝒱 (c : Thread nD τ) bd) Set.univ)
  isplitl [Tcp As1 Ar1 Ac Cs1 Cr1 Cc H0 H2 H3 H5 HS0 HO]
  · iapply (part24 𝒱 c bd arg0 harg0 harg1 arg2 harg2 arg3 harg3 arg4 harg4 arg5 harg5 harg6 Ws κ v48 X2 X3 v50 v14 v25 cst f1)
    isplitr
    · isplitr; · iexact Is1
      isplitr; · iexact Ir1
      isplitr; · iexact Icp
      isplitr; · iexact Ic
      isplitr; · iexact Rcp
      iexact Hlev
    isplitl [Tcp]; · iexact Tcp
    isplitl [As1]; · iexact As1
    isplitl [Ar1]; · iexact Ar1
    isplitl [Ac]; · iexact Ac
    isplitl [Cs1]; · iexact Cs1
    isplitl [Cr1]; · iexact Cr1
    isplitl [Cc]; · iexact Cc
    isplitl [H0 H2 H3 H5]
    · isplitl [H0]; · iexact H0
      isplitl [H2]; · iexact H2
      isplitl [H3]; · iexact H3
      iexact H5
    isplitl [HS0]; · iexact HS0
    iexact HO
  iintro %u ⟨As1, Ar1, Ac, HS1, F0, HO, %f2, %hf2, H0, H2, H3, H5⟩
  iapply (wp_wand_r Idealize.ShloMosaic.frame (wpE (defs₀ (F := F)) 𝒱 (c : Thread nD τ) bd) Set.univ)
  isplitl [Ts2 Tr2n As2 Ar2 Cr2 H0 H2 H3 H5 HS1 F0 HO]
  · iapply (part25 𝒱 c bd arg0 harg0 harg1 arg2 harg2 arg3 harg3 arg4 harg4 arg5 harg5 harg6 Ws κ v48 X2 X3 v50 v25 f2)
    isplitr
    · isplitr; · iexact Is2
      isplitr; · iexact Ir2
      isplitr; · iexact Ir2n
      isplitr; · iexact Rs2
      isplitr; · iexact Rr2n
      iexact Hlev
    isplitl [Ts2]; · iexact Ts2
    isplitl [Tr2n]; · iexact Tr2n
    isplitl [As2]; · iexact As2
    isplitl [Ar2]; · iexact Ar2
    isplitl [Cr2]; · iexact Cr2
    isplitl [H0 H2 H3 H5]
    · isplitl [H0]; · iexact H0
      isplitl [H2]; · iexact H2
      isplitl [H3]; · iexact H3
      iexact H5
    isplitl [HS1]; · iexact HS1
    isplitl [F0]; · iexact F0
    iexact HO
  iintro %cst' ⟨As2, Ar2, HS1, HS0, HO, %f3, %hf3, H0, H2, H3, H5⟩
  iapply (hop4 𝒱 c bd arg0 harg0 harg1 arg2 harg2 arg3 harg3 arg4 harg4 arg5 harg5 harg6 v48 X2 X3 v50 cst' (Ws (prv (prv (prv c)))) fullShare f3)
  isplitl [H0 H2 H3 H5 HS0]
  · isplitl [H0]; · iexact H0
    isplitl [H2]; · iexact H2
    isplitl [H3]; · iexact H3
    isplitl [HS0]; · iexact HS0
    iexact H5
  iintro %f4 %hf4 ⟨H0, H2, H3, HS0, H5⟩
  rw [wp_pure]
  imod (close Ws (κ (barCell c)) (barCell c)) $$ [Ab] with Zb
  · isplitr; · iexact Ib
    iexact Ab
  imod (close Ws (κ (crdCell c)) (crdCell c)) $$ [Ac] with Zc
  · isplitr; · iexact Ic
    iexact Ac
  imod (close Ws (κ (snd0 c)) (snd0 c)) $$ [As0] with Zs0
  · isplitr; · iexact Is0
    iexact As0
  imod (close Ws (κ (snd1 c)) (snd1 c)) $$ [As1] with Zs1
  · isplitr; · iexact Is1
    iexact As1
  imod (close Ws (κ (snd2 c)) (snd2 c)) $$ [As2] with Zs2
  · isplitr; · iexact Is2
    iexact As2
  imod (close Ws (κ (rcv0 c)) (rcv0 c)) $$ [Ar0] with Zr0
  · isplitr; · iexact Ir0
    iexact Ar0
  imod (close Ws (κ (rcv1 c)) (rcv1 c)) $$ [Ar1] with Zr1
  · isplitr; · iexact Ir1
    iexact Ar1
  imod (close Ws (κ (rcv2 c)) (rcv2 c)) $$ [Ar2] with Zr2
  · isplitr; · iexact Ir2
    iexact Ar2
  imodintro
  iapply Hk
  isplitl [Zb]; · iexact Zb
  isplitl [Zc Zs0 Zs1 Zs2 Zr0 Zr1 Zr2]
  · unfold zeros
    isplitl [Zc]; · iexact Zc
    isplitl [Zs0 Zs1 Zs2]
    · isplitl [Zs0]; · iexact Zs0
      isplitl [Zs1] <;> iassumption
    isplitl [Zr0]; · iexact Zr0
    isplitl [Zr1] <;> iassumption
  isplitl [HS0]; · iexists _; iexact HS0
  isplitl [HS1]; · iexists _; iexact HS1
  isplitl [H0 HW H2 H3 H4]
  · isplitl [H0]; · iexact H0
    isplitl [HW]; · iexact HW
    isplitl [H2]; · iexact H2
    isplitl [H3]; · iexact H3
    iexact H4
  isplitl [H5]
  · iexists f4
    isplitr
    · ipureintro
      rw [hf4, hf3, hf2, hf1, hf0]
      rfl
    iexact H5
  iexact HO

end Whole

end Cert.KernelIdeal

end
-- ==== Proof.Region.lean ====
/- The call as a region: what it finds, what it leaves, and its scratch. -/
module

public import proofs.«01_k».proof.Proof.Talk
public import Idealize.ShloMosaic.Lib.Pipeline.ValueKit
public import Idealize.ShloMosaic.Lib.Pipeline.RegionTalk

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation)

variable (A : Dev nD → Valuation τ sig (Elt F))

/-! ## The contents of the windows -/

/-- The stack of weights of each device, as the region finds it. -/
def wts (c : Dev nD) : Vec F S4x1024x1024 .bf16 := A c (Proc.devRef .tc main_v6)

/-- What the region leaves in the result of device `c`. -/
def result (c : Dev nD) : Vec F S1x2048x1024 .f32 :=
  outV (A c (Proc.devRef .tc main_v1)) (A c (Proc.devRef .tc main_v53)) (A c (Proc.devRef .tc main_v40)) (A c (Proc.devRef .tc main_v43))
    (wts A c) (wts A (prv c)) (wts A (prv (prv c))) (wts A (prv (prv (prv c))))

/-- The scratch of the ring at contents not named. -/
def scratch (c : Dev nD) : sProp 𝕄 :=
  iprop(∃ f : Buf (Elt F) ((c : Thread nD τ).loc cc0_scratch0), ((c : Thread nD τ).loc cc0_scratch0) ↦{fullShare} f)

/-- What the region starts from beside the staged blocks. -/
def begins (c : Dev nD) : sProp 𝕄 :=
  iprop((∃ κ, opened (wts A) κ c) ∗ credits c ∗ levAts L lv)

/-- The region's data: every array whole in its one window, the result at `result`. -/
def dat (c : Dev nD) : Dat τ (Elt F) Unit ℕ UU ℕ cfg0 c where
  A w := A c (Proc.devRef .tc (Pipeline.arrRef spec0 w))
  after
    | 0 => fun _ => A c (Proc.devRef .tc main_v1)
    | 1 => fun _ => wts A c
    | 2 => fun _ => A c (Proc.devRef .tc main_v40)
    | 3 => fun _ => A c (Proc.devRef .tc main_v43)
    | 4 => fun _ => A c (Proc.devRef .tc main_v53)
    | 5 => fun _ => result A c
    | ⟨_ + 6, h⟩ => absurd h (Nat.not_lt.2 (Nat.le_add_left _ _))
  Φ t := if t.val = 0 then iprop((scratch c ∗ ∃ r, prngReg c r) ∗ begins A c)
    else iprop((scratch c ∗ ∃ r, prngReg c r) ∗ zeros c ∗ semVal (barCell c) 0)
  q w := fullShare
  owed t := if t.val = 0 then O₀ c else 0

/-- The block of window 0 is its whole array. -/
theorem block0 (c : Dev nD) (t : Fin cfg0.N) : (dat A c).blockOf 0 t = A c (Proc.devRef .tc main_v1) := by
  obtain rfl := fin_N0 t
  funext j
  blk_simp
  show A c (Proc.devRef .tc main_v1) ((win0_0.blk t0_0).view.emb j) = _
  exact congrArg (A c (Proc.devRef .tc main_v1)) (funext fun a => Fin.ext (win0_0.rect_emb_val_of_index_zero t0_0 a rfl j))

/-- Window 0 is found holding its whole array. -/
theorem before0 (c : Dev nD) (t : Fin cfg0.N) (d) : (dat A c).before 0 t d = A c (Proc.devRef .tc main_v1) :=
  ((dat A c).before_in_eq_fetched 0 rfl (fun _ => rfl) (fun _ _ _ => rfl) (fun t => (block0 A c t).symm) t d).trans (block0 A c t)

/-- The block of window 1 is its whole array. -/
theorem block1 (c : Dev nD) (t : Fin cfg0.N) : (dat A c).blockOf 1 t = A c (Proc.devRef .tc main_v6) := by
  obtain rfl := fin_N0 t
  funext j
  blk_simp
  show A c (Proc.devRef .tc main_v6) ((win0_1.blk t0_0).view.emb j) = _
  exact congrArg (A c (Proc.devRef .tc main_v6)) (funext fun a => Fin.ext (win0_1.rect_emb_val_of_index_zero t0_0 a rfl j))

/-- Window 1 is found holding its whole array. -/
theorem before1 (c : Dev nD) (t : Fin cfg0.N) (d) : (dat A c).before 1 t d = A c (Proc.devRef .tc main_v6) :=
  ((dat A c).before_in_eq_fetched 1 rfl (fun _ => rfl) (fun _ _ _ => rfl) (fun t => (block1 A c t).symm) t d).trans (block1 A c t)

/-- The block of window 2 is its whole array. -/
theorem block2 (c : Dev nD) (t : Fin cfg0.N) : (dat A c).blockOf 2 t = A c (Proc.devRef .tc main_v40) := by
  obtain rfl := fin_N0 t
  funext j
  blk_simp
  show A c (Proc.devRef .tc main_v40) ((win0_2.blk t0_0).view.emb j) = _
  exact congrArg (A c (Proc.devRef .tc main_v40)) (funext fun a => Fin.ext (win0_2.rect_emb_val_of_index_zero t0_0 a rfl j))

/-- Window 2 is found holding its whole array. -/
theorem before2 (c : Dev nD) (t : Fin cfg0.N) (d) : (dat A c).before 2 t d = A c (Proc.devRef .tc main_v40) :=
  ((dat A c).before_in_eq_fetched 2 rfl (fun _ => rfl) (fun _ _ _ => rfl) (fun t => (block2 A c t).symm) t d).trans (block2 A c t)

/-- The block of window 3 is its whole array. -/
theorem block3 (c : Dev nD) (t : Fin cfg0.N) : (dat A c).blockOf 3 t = A c (Proc.devRef .tc main_v43) := by
  obtain rfl := fin_N0 t
  funext j
  blk_simp
  show A c (Proc.devRef .tc main_v43) ((win0_3.blk t0_0).view.emb j) = _
  exact congrArg (A c (Proc.devRef .tc main_v43)) (funext fun a => Fin.ext (win0_3.rect_emb_val_of_index_zero t0_0 a rfl j))

/-- Window 3 is found holding its whole array. -/
theorem before3 (c : Dev nD) (t : Fin cfg0.N) (d) : (dat A c).before 3 t d = A c (Proc.devRef .tc main_v43) :=
  ((dat A c).before_in_eq_fetched 3 rfl (fun _ => rfl) (fun _ _ _ => rfl) (fun t => (block3 A c t).symm) t d).trans (block3 A c t)

/-- The block of window 4 is its whole array. -/
theorem block4 (c : Dev nD) (t : Fin cfg0.N) : (dat A c).blockOf 4 t = A c (Proc.devRef .tc main_v53) := by
  obtain rfl := fin_N0 t
  funext j
  blk_simp
  show A c (Proc.devRef .tc main_v53) ((win0_4.blk t0_0).view.emb j) = _
  exact congrArg (A c (Proc.devRef .tc main_v53)) (funext fun a => Fin.ext (win0_4.rect_emb_val_of_index_zero t0_0 a rfl j))

/-- Window 4 is found holding its whole array. -/
theorem before4 (c : Dev nD) (t : Fin cfg0.N) (d) : (dat A c).before 4 t d = A c (Proc.devRef .tc main_v53) :=
  ((dat A c).before_in_eq_fetched 4 rfl (fun _ => rfl) (fun _ _ _ => rfl) (fun t => (block4 A c t).symm) t d).trans (block4 A c t)

/-- The result's array after the region. -/
theorem left5 (c : Dev nD) : (dat A c).arrAt 5 cfg0.N = result A c := by
  refine (dat A c).arrAt_eq_of_after_last 5 t0_0 (by decide +kernel) _ fun j => ?_
  blk_simp
  rfl

/-! ## The two slots of the scratch -/

/-- Slot 0 is the first half of the scratch. -/
theorem slot0_mem (i : S2x4x1024x1024.Idx) : i ∈ (slot0.view.set : Finset S2x4x1024x1024.Idx) ↔ (i 0).val = 0 := by
  have h : (slot0.view.set : Finset S2x4x1024x1024.Idx)
      = (Rect.unit (s := S2x4x1024x1024) ![0, 0, 0, 0] S1x4x1024x1024.size Facts₀.inb_S2x4x1024x1024_S1x4x1024x1024_0_0_0_0).set :=
    (Memref.set_view_squeeze _ _).trans (View.set_slice_whole _ _)
  rw [h, Rect.mem_set_unit]
  refine ⟨fun h => Nat.lt_one_iff.mp (h 0).2, fun h a => ?_⟩
  match a with
  | 0 => exact ⟨Nat.zero_le _, by show (i 0).val < 1; omega⟩
  | 1 => exact ⟨Nat.zero_le _, (Nat.zero_add 4).symm ▸ (i 1).isLt⟩
  | 2 => exact ⟨Nat.zero_le _, (Nat.zero_add 1024).symm ▸ (i 2).isLt⟩
  | 3 => exact ⟨Nat.zero_le _, (Nat.zero_add 1024).symm ▸ (i 3).isLt⟩

/-- Slot 1 is the second half. -/
theorem slot1_mem (i : S2x4x1024x1024.Idx) : i ∈ (slot1.view.set : Finset S2x4x1024x1024.Idx) ↔ (i 0).val = 1 := by
  have h : (slot1.view.set : Finset S2x4x1024x1024.Idx)
      = (Rect.unit (s := S2x4x1024x1024) ![1, 0, 0, 0] S1x4x1024x1024.size Facts₀.inb_S2x4x1024x1024_S1x4x1024x1024_1_0_0_0).set :=
    (Memref.set_view_squeeze _ _).trans (View.set_slice_whole _ _)
  rw [h, Rect.mem_set_unit]
  refine ⟨fun h => le_antisymm (Nat.lt_succ_iff.mp (h 0).2) (h 0).1, fun h a => ?_⟩
  match a with
  | 0 => exact ⟨h.ge, by show (i 0).val < 2; omega⟩
  | 1 => exact ⟨Nat.zero_le _, (Nat.zero_add 4).symm ▸ (i 1).isLt⟩
  | 2 => exact ⟨Nat.zero_le _, (Nat.zero_add 1024).symm ▸ (i 2).isLt⟩
  | 3 => exact ⟨Nat.zero_le _, (Nat.zero_add 1024).symm ▸ (i 3).isLt⟩

/-- The halves are disjoint. -/
theorem slots_disjoint : Disjoint (slot0.view.set : Finset S2x4x1024x1024.Idx) slot1.view.set := by
  rw [Finset.disjoint_left]
  intro i h0 h1
  rw [slot0_mem] at h0
  rw [slot1_mem] at h1
  omega

/-- Together they are the scratch. -/
theorem slots_union : (slot0.view.set : Finset S2x4x1024x1024.Idx) ∪ slot1.view.set = Finset.univ := by
  refine Finset.eq_univ_iff_forall.mpr fun i => ?_
  rw [Finset.mem_union, slot0_mem, slot1_mem]
  have := (i 0).isLt
  change (i 0).val < 2 at this
  omega

/-- The whole scratch is its two slots. -/
theorem scratch_split (c : Dev nD) : scratch c ⊢ (iprop(free slot0 c ∗ free slot1 c) : sProp 𝕄) := by
  unfold scratch
  iintro ⟨%f, H⟩
  ihave H2 := (show ((((c : Thread nD τ).loc cc0_scratch0) ↦{fullShare} f : sProp 𝕄))
      ⊢ iprop((slot0.view.loc (c : Thread nD τ) ↦[slot0.view.set]{fullShare} f) ∗ slot1.view.loc (c : Thread nD τ) ↦[slot1.view.set]{fullShare} f) from
    (Entails.of_eq (by rw [← slots_union])).trans (pointsTo_union slots_disjoint).1) $$ H
  icases H2 with ⟨H0, H1⟩
  isplitl [H0]
  · iexists f; iexact H0
  iexists f; iexact H1

/-- The two slots are the whole scratch. -/
theorem scratch_join (c : Dev nD) : iprop(free slot0 c ∗ free slot1 c) ⊢ (scratch c : sProp 𝕄) := by
  unfold scratch
  iintro ⟨⟨%f, H0⟩, ⟨%g, H1⟩⟩
  ihave H := (show iprop((slot0.view.loc (c : Thread nD τ) ↦[slot0.view.set]{fullShare} f) ∗ slot1.view.loc (c : Thread nD τ) ↦[slot1.view.set]{fullShare} g)
      ⊢ (((c : Thread nD τ).loc cc0_scratch0) ↦{fullShare} ((slot1.view.set : Finset S2x4x1024x1024.Idx).piecewise g f) : sProp 𝕄) from
    (pointsTo_join slots_disjoint).trans (Entails.of_eq (by rw [← slots_union]))) $$ [H0 H1]
  · isplitl [H0] <;> iassumption
  iexists _; iexact H

/-! ## The body's obligation -/

/-- A staged block at named contents, as the body takes it. -/
theorem owns_rep {S : Shape} {e : EltTy} (c : Dev nD) (M : Memref sig .tc .vmem S e) (X : Vec F S e) :
    (owns (c : Thread nD τ) M fullShare X : sProp 𝕄) ⊢ (M.view.loc (c : Thread nD τ) ↦[M.view.set]{fullShare} M.view.rep X) := by
  unfold owns
  iintro ⟨%f, %h, H⟩
  iapply (pointsTo_rep_of_read (c : Thread nD τ) M f fullShare X h) $$ H
/-- A view that holds a vector is owned with it. -/
theorem rep_owns {S : Shape} {e : EltTy} (c : Dev nD) (M : Memref sig .tc .vmem S e) (X : Vec F S e) :
    ((M.view.loc (c : Thread nD τ) ↦[M.view.set]{fullShare} M.view.rep X) : sProp 𝕄) ⊢ owns (c : Thread nD τ) M fullShare X := by
  unfold owns
  iintro H
  iexists M.view.rep X
  isplitr
  · ipureintro; exact View.read_rep _ _
  iexact H

/-- A view that is owned holds something. -/
theorem owns_some {S : Shape} {e : EltTy} (c : Dev nD) (M : Memref sig .tc .vmem S e) (X : Vec F S e) :
    (owns (c : Thread nD τ) M fullShare X : sProp 𝕄) ⊢ iprop(∃ f, M.view.loc (c : Thread nD τ) ↦[M.view.set]{fullShare} f) := by
  unfold owns
  iintro ⟨%f, %h, H⟩
  iexists f; iexact H
/-- A view that holds a vector, from its contents. -/
theorem owns_of {S : Shape} {e : EltTy} (c : Dev nD) (M : Memref sig .tc .vmem S e) (X : Vec F S e)
    {f : BufTy.Contents (Elt F) M.view.ty} (h : M.view.read (Elt F) f = X) :
    ((M.view.loc (c : Thread nD τ) ↦[M.view.set]{fullShare} f) : sProp 𝕄) ⊢ owns (c : Thread nD τ) M fullShare X := by
  unfold owns
  iintro H
  iexists f
  isplitr; · ipureintro; exact h
  iexact H

/-- Before the body all is owed. -/
theorem owed_first (c : Dev nD) : (dat A c).owed t0_0.castSucc = O₀ c := by
  show (if (t0_0.castSucc : Fin (cfg0.N + 1)).val = 0 then O₀ c else 0) = O₀ c; exact if_pos rfl
/-- So it is at the start. -/
theorem owed_zero (c : Dev nD) : (dat A c).owed 0 = O₀ c := by
  show (if ((0 : Fin (cfg0.N + 1)).val = 0) then O₀ c else 0) = O₀ c; exact if_pos rfl
/-- At the end nothing is owed. -/
theorem owed_last (c : Dev nD) : (dat A c).owed (Fin.last _) = 0 := by
  show (if (Fin.last cfg0.N).val = 0 then O₀ c else 0) = 0
  rw [Fin.val_last, if_neg (by rw [show cfg0.N = 1 from N_0]; decide)]

/-- Owing, as the region records it. -/
theorem owes_in (c : Dev nD) (t : Fin (cfg0.N + 1)) (O : CellTallies nD τ sig Unit) (h : (dat A c).owed t = O) :
    owing c O ⊢ ((dat A c).owesAt () t : sProp 𝕄) := by
  unfold owing Dat.owesAt Pipeline.owesWithin Dat.bound
  rw [h]
  iintro ⟨%W, HO⟩
  iexists W
  isplitr; · ipureintro; exact fun _ _ => Or.inl trivial
  iexact HO
/-- The debts at a time, named. -/
theorem owes_out (c : Dev nD) (t : Fin (cfg0.N + 1)) (O : CellTallies nD τ sig Unit) (h : (dat A c).owed t = O) :
    ((dat A c).owesAt () t : sProp 𝕄) ⊢ owing c O := by
  unfold owing Dat.owesAt Pipeline.owesWithin
  rw [h]
  iintro ⟨%W, -, HO⟩
  iexists W; iexact HO

/-- The body at the region's one point. -/
theorem body (c : Dev nD) : BodyObligation (dat A c) defs₀ Variants.none () Set.univ := fun t => by
  obtain rfl := fin_N0 t
  rw [show (dat A c).Φ t0_0.castSucc = iprop((scratch c ∗ ∃ r, prngReg c r) ∗ begins A c) from rfl,
    show (dat A c).Φ t0_0.succ = iprop((scratch c ∗ ∃ r, prngReg c r) ∗ zeros c ∗ semVal (barCell c) 0) from rfl]
  rw [bigSep_W0, bigSep_W0]
  simp only [before0, before1, before2, before3, before4]
  unfold begins
  iintro ⟨⟨⟨Hs, Hp⟩, ⟨%κ, Hop⟩, Hcr, Hlv⟩, HO, ⟨%_, H0⟩, ⟨%_, H1⟩, ⟨%_, H2⟩, ⟨%_, H3⟩, ⟨%_, H4⟩, ⟨%d5, H5⟩⟩
  ihave HO' := (owes_out A c _ (O₀ c) (owed_first A c)) $$ HO
  ihave Hf := (scratch_split c) $$ Hs
  icases Hf with ⟨F0, F1⟩
  ihave H5 := (owns_some c (stage0_5 0) _) $$ H5
  icases H5 with ⟨%f5, H5⟩
  iapply (talk Variants.none c none (stage0_0 0) (hstage0_0 0) (hstage0_1 0) (stage0_2 0) (hstage0_2 0) (stage0_3 0) (hstage0_3 0)
    (stage0_4 0) (hstage0_4 0) (stage0_5 0) (hstage0_5 0) (Memref.isWhole_whole _)
    (A c (Proc.devRef .tc main_v1)) (A c (Proc.devRef .tc main_v40)) (A c (Proc.devRef .tc main_v43)) (A c (Proc.devRef .tc main_v53)) (wts A) κ f5 _)
  isplitl [Hop Hcr Hlv HO' F0 F1 H0 H1 H2 H3 H4 H5]
  · isplitl [Hop]; · iexact Hop
    isplitl [Hcr]; · iexact Hcr
    isplitl [Hlv]; · iexact Hlv
    isplitl [F0]; · iexact F0
    isplitl [F1]; · iexact F1
    isplitr [H5 HO']
    · isplitl [H0]; · iapply (owns_rep c (stage0_0 0) (A c (Proc.devRef .tc main_v1))); iexact H0
      isplitl [H1]; · iapply (owns_rep c wM (wts A c)); iexact H1
      isplitl [H2]; · iapply (owns_rep c (stage0_2 0) (A c (Proc.devRef .tc main_v40))); iexact H2
      isplitl [H3]; · iapply (owns_rep c (stage0_3 0) (A c (Proc.devRef .tc main_v43))); iexact H3
      iapply (owns_rep c (stage0_4 0) (A c (Proc.devRef .tc main_v53))); iexact H4
    isplitl [H5]; · iexact H5
    iexact HO'
  iintro ⟨Hb, Hz, F0, F1, ⟨H0, H1, H2, H3, H4⟩, ⟨%f', %hf', H5⟩, HO⟩
  isplitl [Hb Hz F0 F1 Hp]
  · isplitl [F0 F1 Hp]
    · isplitl [F0 F1]
      · iapply (scratch_join c); isplitl [F0] <;> iassumption
      iexact Hp
    isplitl [Hz] <;> iassumption
  isplitl [HO]; · iapply (owes_in A c _ 0 (owed_last A c)); iexact HO
  isplitl [H0]; · iapply (rep_owns c (stage0_0 0) (A c (Proc.devRef .tc main_v1))); iexact H0
  isplitl [H1]; · iapply (rep_owns c wM (wts A c)); iexact H1
  isplitl [H2]; · iapply (rep_owns c (stage0_2 0) (A c (Proc.devRef .tc main_v40))); iexact H2
  isplitl [H3]; · iapply (rep_owns c (stage0_3 0) (A c (Proc.devRef .tc main_v43))); iexact H3
  isplitl [H4]; · iapply (rep_owns c (stage0_4 0) (A c (Proc.devRef .tc main_v53))); iexact H4
  iapply (owns_of c (stage0_5 0) (result A c) hf') $$ H5

end Cert.KernelIdeal

end
-- ==== Proof.Run.lean ====
/- The region as a segment of the program: what goes in and what comes out. -/
module

public import proofs.«01_k».proof.Proof.Region

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation)

/-! ## The region as a segment -/

/-- The semaphores the region owns. -/
abbrev osem : Fin 7 → SemLoc sig
  | 0 => .reg crdS | 1 => .dma sndS0 | 2 => .dma sndS1 | 3 => .dma sndS2 | 4 => .dma rcvS0 | 5 => .dma rcvS1 | 6 => .dma rcvS2
  | ⟨_ + 7, h⟩ => absurd h (Nat.not_lt.2 (Nat.le_add_left _ _))

/-- Seven assertions one by one. -/
theorem bigSep_seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ

/-- The call's own semaphores at zero, one by one. -/
theorem ownSems_eq (c : Dev nD) : (Pipeline.ownSems0 osem c : sProp 𝕄)
    = iprop(semVal (crdCell c) 0 ∗ semVal (snd0 c) 0 ∗ semVal (snd1 c) 0 ∗ semVal (snd2 c) 0
      ∗ semVal (rcv0 c) 0 ∗ semVal (rcv1 c) 0 ∗ semVal (rcv2 c) 0) :=
  bigSep_seven (fun k : Fin 7 => (semVal ((c : Thread nD τ), osem k) 0 : sProp 𝕄))

/-- All of them at zero give the assertion of the call. -/
theorem zeros_own (c : Dev nD) : zeros c ⊢ (Pipeline.ownSems0 osem c : sProp 𝕄) := by
  rw [ownSems_eq]
  unfold zeros
  iintro ⟨H0, ⟨H1, H2, H3⟩, H4, H5, H6⟩
  isplitl [H0]; · iexact H0
  isplitl [H1]; · iexact H1
  isplitl [H2]; · iexact H2
  isplitl [H3]; · iexact H3
  isplitl [H4]; · iexact H4
  isplitl [H5] <;> iassumption

section Segment

variable (A : Dev nD → Valuation τ sig (Elt F))

/-- What a device carries from the launch to the region: its cells of the region still closed, with the right to open them. -/
def ghost (κ : GSem nD τ sig → ℕ) (c : Dev nD) : sProp 𝕄 :=
  iprop(invs (wts A) κ c ∗ atPos ER (barCell c) 0 ∅ 0
    ∗ (openTok ER (crdCell c) ∗ openTok ER (snd0 c) ∗ openTok ER (snd1 c) ∗ openTok ER (snd2 c)
      ∗ openTok ER (rcv0 c) ∗ openTok ER (rcv1 c) ∗ openTok ER (rcv2 c))
    ∗ (reached ER (barCell (prv c)) 0 ∗ reached ER (barCell (nxt c)) 0) ∗ tokens c)

/-- What the launch hands a device for the region. -/
def handed (c : Dev nD) : sProp 𝕄 := iprop((∃ κ, ghost A κ c) ∗ credits c)

/-- A cell opened at a zero counter. -/
theorem open_cell (κ : GSem nD τ sig → ℕ) (g : GSem nD τ sig) :
    iprop(cellInv ER (ringRd (wts A)) (κ g) g ∗ openTok ER g ∗ semVal g 0)
      ⊢ (|={Set.univ}=> iprop(atPos ER g 0 ∅ 0 ∗ reached ER g 0) : sProp 𝕄) :=
  Rounds.cell_open ER (ringRd (wts A)) (Set.mem_univ _)

/-- The region's entry: every cell of the region is opened. -/
theorem opens (c : Dev nD) : iprop(handed A c ∗ Pipeline.ownSems0 osem c ∗ levAts L lv) ⊢ (|={Set.univ}=> begins A c : sProp 𝕄) := by
  rw [ownSems_eq]
  unfold handed begins ghost
  iintro ⟨⟨⟨%κ, #Hi, Ab, ⟨Oc, Os0, Os1, Os2, Or0, Or1, Or2⟩, ⟨#Rp, #Rn⟩, Ht⟩, Hcr⟩, ⟨Vc, Vs0, Vs1, Vs2, Vr0, Vr1, Vr2⟩, Hlev⟩
  ihave Hi' := (show invs (wts A) κ c ⊢ _ from by unfold invs; exact .rfl) $$ Hi
  icases Hi' with ⟨⟨-, #Ic, #Is0, #Is1, #Is2, #Ir0, #Ir1, #Ir2⟩, -⟩
  imod (open_cell A κ (crdCell c)) $$ [Oc Vc] with ⟨Ac, #Rc⟩
  · isplitr; · iexact Ic
    isplitl [Oc] <;> iassumption
  imod (open_cell A κ (snd0 c)) $$ [Os0 Vs0] with ⟨As0, #Rs0⟩
  · isplitr; · iexact Is0
    isplitl [Os0] <;> iassumption
  imod (open_cell A κ (snd1 c)) $$ [Os1 Vs1] with ⟨As1, #Rs1⟩
  · isplitr; · iexact Is1
    isplitl [Os1] <;> iassumption
  imod (open_cell A κ (snd2 c)) $$ [Os2 Vs2] with ⟨As2, #Rs2⟩
  · isplitr; · iexact Is2
    isplitl [Os2] <;> iassumption
  imod (open_cell A κ (rcv0 c)) $$ [Or0 Vr0] with ⟨Ar0, #Rr0⟩
  · isplitr; · iexact Ir0
    isplitl [Or0] <;> iassumption
  imod (open_cell A κ (rcv1 c)) $$ [Or1 Vr1] with ⟨Ar1, #Rr1⟩
  · isplitr; · iexact Ir1
    isplitl [Or1] <;> iassumption
  imod (open_cell A κ (rcv2 c)) $$ [Or2 Vr2] with ⟨Ar2, #Rr2⟩
  · isplitr; · iexact Ir2
    isplitl [Or2] <;> iassumption
  imodintro
  isplitr [Hcr Hlev]
  · iexists κ; unfold opened
    isplitr; · iexact Hi
    isplitr [Ht]
    · isplitl [Ab]; · iexact Ab
      isplitl [Ac]; · iexact Ac
      isplitl [As0]; · iexact As0
      isplitl [As1]; · iexact As1
      isplitl [As2]; · iexact As2
      isplitl [Ar0]; · iexact Ar0
      isplitl [Ar1] <;> iassumption
    isplitr [Ht]
    · isplitr; · iexact Rp
      isplitr; · iexact Rn
      isplitr; · iexact Rc
      isplitr; · iexact Rs0
      isplitr; · iexact Rs1
      isplitr; · iexact Rs2
      isplitr; · iexact Rr0
      isplitr; · iexact Rr1
      iexact Rr2
    iexact Ht
  isplitl [Hcr] <;> iassumption

/-- The call is admissible. -/
abbrev adm : (p : Fin 1) → (pcfgs (F := F) p).Adm := fun p => (cfgs p).toPCfg_adm
/-- Its data, on every device. -/
def pdats : (p : Fin 1) → (c : Dev nD) → Dat τ (Elt F) Unit ℕ UU ℕ (Pipeline.pin (pcfgs (F := F)) adm p) c
  | 0 => dat A

/-- The contents after the region: the result's array written, everything else as before. -/
def left (c : Dev nD) : Valuation τ sig (Elt F) := Function.update (A c) (Proc.devRef .tc main_v54) (result A c)
/-- The call leaves the result. -/
theorem left_result (c : Dev nD) : left A c (Proc.devRef .tc main_v54) = result A c := Function.update_self ..
/-- It leaves every other array as it was. -/
theorem left_other (c : Dev nD) {b : DevRef τ sig} (h : b ≠ Proc.devRef .tc main_v54) : left A c b = A c b := Function.update_of_ne h ..

/-- An array enters the call as it was found. -/
theorem enters (c : Dev nD) (w : Fin cfg0.W) : (dat A c).arrAt w 0 = A c (Proc.devRef .tc (Pipeline.arrRef spec0 w)) := rfl
/-- An array leaves the call as named. -/
theorem leaves : ∀ (c : Dev nD) (w : Fin cfg0.W), (dat A c).arrAt w cfg0.N = left A c (Proc.devRef .tc (Pipeline.arrRef spec0 w))
  | c, 0 => ((dat A c).arrAt_in 0 rfl _).trans (left_other A c (StableHlo.devRef_ne_of_ne (by decide))).symm
  | c, 1 => ((dat A c).arrAt_in 1 rfl _).trans (left_other A c (StableHlo.devRef_ne_of_ne (by decide))).symm
  | c, 2 => ((dat A c).arrAt_in 2 rfl _).trans (left_other A c (StableHlo.devRef_ne_of_ne (by decide))).symm
  | c, 3 => ((dat A c).arrAt_in 3 rfl _).trans (left_other A c (StableHlo.devRef_ne_of_ne (by decide))).symm
  | c, 4 => ((dat A c).arrAt_in 4 rfl _).trans (left_other A c (StableHlo.devRef_ne_of_ne (by decide))).symm
  | c, 5 => (left5 A c).trans (left_result A c).symm
  | _, ⟨_ + 6, h⟩ => absurd h (Nat.not_lt.2 (Nat.le_add_left _ _))

/-- The buffers the region does not stage. -/
abbrev others : Finset (DevRef τ sig) := Pipeline.ucRefs τ sig \ Pipeline.arrRefs (τ := τ) spec0

/-- What the call does not stage is left as it was. -/
theorem others_left (c : Dev nD) (b : DevRef τ sig) (hb : b ∈ others \ (∅ : Finset (DevRef τ sig))) : left A c b = A c b := by
  refine left_other A c fun h => ?_
  subst h
  refine (Finset.mem_sdiff.mp (Finset.mem_sdiff.mp hb).1).2 ?_
  exact Finset.mem_map.mpr ⟨main_v54, Finset.mem_image.mpr ⟨5, Finset.mem_univ _, rfl⟩, rfl⟩

/-- Holding no buffers is nothing. -/
theorem held_none (c : Dev nD) (W : Valuation τ sig (Elt F)) : (StableHlo.held (c.tc : Thread nD τ) ∅ W : sProp 𝕄) = BI.emp := by
  unfold StableHlo.held
  exact BI.bigSep_empty

/-- What the call takes in gives what its body starts from. -/
theorem goes_in (c : Dev nD) : iprop(Pipeline.scopedRest (Pipeline.pin (pcfgs (F := F)) adm 0).spec c ∗ (∃ r, prngReg c r)
      ∗ StableHlo.held (c.tc : Thread nD τ) ∅ (A c) ∗ begins A c) ⊢ (pdats A 0 c).Φ 0 := by
  rw [show (pdats A 0 c).Φ 0 = iprop((scratch c ∗ ∃ r, prngReg c r) ∗ begins A c) from rfl]
  rw [show (Pipeline.scopedRest (Pipeline.pin (pcfgs (F := F)) adm 0).spec c : sProp 𝕄) = scratch c from scopedRest0_eq c, held_none]
  iintro ⟨Hs, Hp, -, Hb⟩
  isplitl [Hs Hp]
  · isplitl [Hs] <;> iassumption
  iexact Hb

/-- What its body ends in gives what the call leaves. -/
theorem comes_out (c : Dev nD) : (pdats A 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (left A c) ∗ Pipeline.ownSems0 osem c ∗ semVal (barCell c) 0) := by
  rw [show (pdats A 0 c).Φ (Fin.last _) = iprop((scratch c ∗ ∃ r, prngReg c r) ∗ zeros c ∗ semVal (barCell c) 0) from rfl]
  rw [show (Pipeline.scopedRest (Pipeline.pin (pcfgs (F := F)) adm 0).spec c : sProp 𝕄) = scratch c from scopedRest0_eq c, held_none]
  iintro ⟨⟨Hs, Hp⟩, Hz, Hb⟩
  isplitl [Hs]; · iexact Hs
  isplitl [Hp]; · iexact Hp
  isplitr; · iempintro
  isplitl [Hz]; · iapply (zeros_own c); iexact Hz
  iexact Hb

/-- All debts lie above level zero. -/
theorem above_all (c : Dev nD) : Above 0 (O₀ c) := by
  have h4 : Above 0 (O₅ c) := above_add (above4 c (by decide)) (above_tally _ _ _ (by decide))
  exact above_add h4 (above_tally _ _ _ (by decide))

/-- Every debt is to a cell of a core and lies above level zero. -/
theorem cut (c : Dev nD) (t : Fin ((Pipeline.pin (pcfgs (F := F)) adm 0).N + 1)) (g : GSem nD τ sig) (i : Unit)
    (h : 0 < (pdats A 0 c).owed t g i) : i ∈ L g ∧ (0 : ℕ) < lv g i := by
  have e : (pdats A 0 c).owed t = if t.val = 0 then O₀ c else 0 := rfl
  rw [e] at h
  split at h
  · have := above_all c g i h
    exact ⟨by unfold L; rw [if_pos this.1]; exact Finset.mem_singleton_self _, this.2⟩
  · exact absurd h (Nat.lt_irrefl 0)

/-- Every staged array is held whole. -/
theorem shares (c : Dev nD) (w : Fin cfg0.W) : (pdats A 0 c).share w = fullShare := by
  unfold Dat.share
  split <;> rfl

/-- The staging's semaphores are at level zero. -/
theorem staging_low (c : Dev nD) : ∀ (w : Fin 6) (s : Fin (spec0 w).nbuf), lvS (.dma ((spec0 w).sem s)) = 0 := by decide

set_option backward.isDefEq.respectTransparency.types false in
/-- The region. -/
def region : Pipeline.RegionSeg (pcfgs (F := F)) adm (pdats A) () defs₀ Variants.none L lv 0 :=
  Pipeline.RegionSeg.ofTalk (pcfgs (F := F)) adm (pdats A) () defs₀ Variants.none L lv 0 osem (by decide : Pipeline.OwnSemFacts spec0 osem)
    ∅ others (Finset.empty_subset _) launch0.toP rfl (fun c => (body A c).loose)
    (fun _ => 0) O₀ (fun c => (owed_zero A c).trans (zero_add _).symm) (owed_last A) (fun _ => rfl) (shares A)
    A (left A) (others_left A) (handed A) (fun c => semVal (barCell c) 0) (begins A) (fun c => semVal (barCell c) 0)
    (opens A) (goes_in A) (comes_out A) (fun c => by iintro H; imodintro; iexact H)
    (fun _ => 0)
    ⟨fun c w s => by rw [L_tc]; exact Finset.mem_singleton_self _, fun c w s => (staging_low c w s).le, fun c t g i h => cut A c t g i h⟩
    (fun _ => iprop(emp)) (enters A) (leaves A)

end Segment

end Cert.KernelIdeal

end
-- ==== Proof.Start.lean ====
/- The launch: the credit of the cells and the ghost state, shared out to the devices. -/
module

public import proofs.«01_k».proof.Proof.Run

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation)

/-! ## The credit of the launch -/

/-- A debt to one cell, read at another. -/
theorem tally_at (c d : Dev nD) (s s' : SemLoc sig) (n : ℕ) :
    tallyAt ((d : Thread nD τ), s') () n ((c : Thread nD τ), s) () = if c = d ∧ s = s' then n else 0 := by
  rw [tallyAt_apply]
  refine if_congr ⟨fun h => ?_, fun h => ?_⟩ rfl rfl
  · exact ⟨congrArg (fun g : GSem nD τ sig => g.1.1) h.1, congrArg Prod.snd h.1⟩
  · rw [h.1, h.2]; exact ⟨rfl, rfl⟩

/-- What is owed to a cell of `c` by a device `d`. -/
theorem owed_at (c d : Dev nD) (s : SemLoc sig) : O₀ d ((c : Thread nD τ), s) ()
    = (((((if c = nxt d ∧ s = .dma rcvS2 then N else 0) + (if c = prv d ∧ s = .reg crdS then 1 else 0))
      + (if c = nxt d ∧ s = .dma rcvS1 then N else 0)) + (if c = nxt d ∧ s = .dma rcvS0 then N else 0))
      + (if c = nxt d ∧ s = .reg barS then 1 else 0)) + (if c = prv d ∧ s = .reg barS then 1 else 0) := by
  unfold O₀ O₅ O₄ O₃ O₂ O₁
  simp only [Pi.add_apply, Finsupp.add_apply]
  rw [tally_at, tally_at, tally_at, tally_at, tally_at, tally_at]

/-- The credit of a cell at the launch is what all devices owe it. -/
theorem launch_at (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, h]

/-- One device has this one as its right neighbour. -/
theorem sum_nxt (c : Dev nD) (n : ℕ) : (∑ d : Dev nD, if c = nxt d then n else 0) = n := by
  rw [Finset.sum_congr rfl fun d _ => if_congr (show c = nxt d ↔ d = prv c from
    ⟨fun h => by rw [h, prv_nxt], fun h => by rw [h, nxt_prv]⟩) rfl rfl, Finset.sum_ite_eq' Finset.univ (prv c) fun _ => n, if_pos (Finset.mem_univ _)]
/-- One device has this one as its left neighbour. -/
theorem sum_prv (c : Dev nD) (n : ℕ) : (∑ d : Dev nD, if c = prv d then n else 0) = n := by
  rw [Finset.sum_congr rfl fun d _ => if_congr (show c = prv d ↔ d = nxt c from
    ⟨fun h => by rw [h, nxt_prv], fun h => by rw [h, prv_nxt]⟩) rfl rfl, Finset.sum_ite_eq' Finset.univ (nxt c) fun _ => n, if_pos (Finset.mem_univ _)]

/-- The semaphores of the ring are different ones. -/
theorem sems_ne : (SemLoc.reg barS : SemLoc sig) ≠ .reg crdS ∧ (SemLoc.dma rcvS0 : SemLoc sig) ≠ .dma rcvS1
    ∧ (SemLoc.dma rcvS0 : SemLoc sig) ≠ .dma rcvS2 ∧ (SemLoc.dma rcvS1 : SemLoc sig) ≠ .dma rcvS2 := by decide

/-- The barrier is owed two units at the launch. -/
theorem launch_bar (c : Dev nD) : tallyOn (barCell c) (launchCredit (Pipeline.owing O₀) 0 (barCell c)) = (tallyAt (barCell c) () 2 : CellTallies nD τ sig Unit) :=
  launch_at c _ 2 (by
    rw [Finset.sum_congr rfl fun d _ => owed_at c d _]
    simp only [reduceCtorEq, sems_ne.1, and_false, and_true, if_false, zero_add, Finset.sum_add_distrib, sum_nxt, sum_prv])
/-- The credit is owed one unit. -/
theorem launch_crd (c : Dev nD) : tallyOn (crdCell c) (launchCredit (Pipeline.owing O₀) 0 (crdCell c)) = (tallyAt (crdCell c) () 1 : CellTallies nD τ sig Unit) :=
  launch_at c _ 1 (by
    rw [Finset.sum_congr rfl fun d _ => owed_at c d _]
    simp only [reduceCtorEq, sems_ne.1.symm, and_false, and_true, if_false, zero_add, add_zero, Finset.sum_add_distrib, sum_nxt, sum_prv])
/-- The first landing is owed a copy. -/
theorem launch_rcv0 (c : Dev nD) : tallyOn (rcv0 c) (launchCredit (Pipeline.owing O₀) 0 (rcv0 c)) = (tallyAt (rcv0 c) () N : CellTallies nD τ sig Unit) :=
  launch_at c _ N (by
    rw [Finset.sum_congr rfl fun d _ => owed_at c d _]
    simp only [reduceCtorEq, sems_ne.2.1, sems_ne.2.2.1, and_false, and_true, if_false, zero_add, add_zero, Finset.sum_add_distrib, sum_nxt, sum_prv])
/-- The second landing is owed a copy. -/
theorem launch_rcv1 (c : Dev nD) : tallyOn (rcv1 c) (launchCredit (Pipeline.owing O₀) 0 (rcv1 c)) = (tallyAt (rcv1 c) () N : CellTallies nD τ sig Unit) :=
  launch_at c _ N (by
    rw [Finset.sum_congr rfl fun d _ => owed_at c d _]
    simp only [reduceCtorEq, sems_ne.2.1.symm, sems_ne.2.2.2, and_false, and_true, if_false, zero_add, add_zero, Finset.sum_add_distrib, sum_nxt, sum_prv])
/-- The third landing is owed a copy. -/
theorem launch_rcv2 (c : Dev nD) : tallyOn (rcv2 c) (launchCredit (Pipeline.owing O₀) 0 (rcv2 c)) = (tallyAt (rcv2 c) () N : CellTallies nD τ sig Unit) :=
  launch_at c _ N (by
    rw [Finset.sum_congr rfl fun d _ => owed_at c d _]
    simp only [reduceCtorEq, sems_ne.2.2.1.symm, sems_ne.2.2.2.symm, and_false, and_true, if_false, zero_add, add_zero, Finset.sum_add_distrib, sum_nxt, sum_prv])

/-- The credit of the launch, cell by cell. -/
theorem creds (c : Dev nD) : (Pipeline.launchCred O₀ c : sProp 𝕄) ⊢ credits c := by
  unfold Pipeline.launchCred credits
  rw [← launch_bar, ← launch_crd, ← launch_rcv0, ← launch_rcv1, ← launch_rcv2]
  refine (bigSep_subset (Finset.subset_univ ([SemLoc.reg barS, .reg crdS, .dma rcvS0, .dma rcvS1, .dma rcvS2] : List (SemLoc sig)).toFinset)).trans ?_
  rw [bigSep_eq_bigSepL_of_eq ([SemLoc.reg barS, .reg crdS, .dma rcvS0, .dma rcvS1, .dma rcvS2] : List (SemLoc sig)) rfl (by decide)]
  exact BI.Entails.refl _

/-! ## Cells and tokens of the launch -/

/-- The call's own semaphores are different ones. -/
theorem osem_inj : Function.Injective osem := by decide
/-- None of them is the barrier. -/
theorem osem_ne_bar : ∀ k : Fin 7, osem k ≠ .reg barS := by decide

/-- The barriers of the devices. -/
def barEmb : Dev nD ↪ GSem nD τ sig := ⟨fun c => barCell c, fun _ _ h => congrArg (fun g : GSem nD τ sig => g.1.1) h⟩
/-- The call's own cells of the devices. -/
def ownEmb : Dev nD × Fin 7 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the cells of the region. -/
abbrev barCells : Finset (GSem nD τ sig) := Finset.univ.map barEmb
/-- The set of them. -/
abbrev ownCells : Finset (GSem nD τ sig) := Finset.univ.map ownEmb

/-- The duties of a device's cells. -/
abbrev tsem : Fin 9 → SemLoc sig × Bool
  | 0 => (.reg barS, true) | 1 => (.reg barS, false) | 2 => (.reg crdS, false)
  | 3 => (.dma sndS0, false) | 4 => (.dma sndS1, false) | 5 => (.dma sndS2, false)
  | 6 => (.dma rcvS0, false) | 7 => (.dma rcvS1, false) | 8 => (.dma rcvS2, false)
  | ⟨_ + 9, h⟩ => absurd h (Nat.not_lt.2 (Nat.le_add_left _ _))
/-- The duties of a device are different ones. -/
theorem tsem_inj : Function.Injective tsem := by decide
/-- The duties of all devices. -/
def tokEmb : Dev nD × Fin 9 ↪ GSem nD τ sig × ℕ × Bool :=
  ⟨fun ck => (((ck.1 : Thread nD τ), (tsem ck.2).1), 0, (tsem ck.2).2), fun _ _ h =>
    Prod.ext (congrArg (fun t : GSem nD τ sig × ℕ × Bool => t.1.1.1) h)
      (tsem_inj (Prod.ext (congrArg (fun t : GSem nD τ sig × ℕ × Bool => t.1.2) h) (congrArg (fun t : GSem nD τ sig × ℕ × Bool => t.2.2) h)))⟩
/-- The set of them. -/
def toks : Finset (GSem nD τ sig × ℕ × Bool) := Finset.univ.map tokEmb

/-- No barrier is one of the own cells. -/
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A barrier is a cell of the launch. -/
theorem bar_mem (c : Dev nD) : barCell c ∈ (barCells ∪ ownCells : Finset (GSem nD τ sig)) :=
  Finset.mem_union_left _ (Finset.mem_map_of_mem barEmb (Finset.mem_univ c))
/-- So is an own cell. -/
theorem own_mem (c : Dev nD) (k : Fin 7) : ((c : Thread nD τ), osem k) ∈ (barCells ∪ ownCells : Finset (GSem nD τ sig)) :=
  Finset.mem_union_right _ (Finset.mem_map_of_mem ownEmb (Finset.mem_univ (c, k)))

/-- The launch's element: the staging cells', and the protocol's. -/
def u₀ : UU :=
  (initOf (Pipeline.cells (Pipeline.pin (pcfgs (F := F)) adm) (launch0.toP.cellOf_inj adm)) (Pipeline.launchToks (Pipeline.pin (pcfgs (F := F)) adm) (launch0.toP.cellOf_inj adm)),
    launchOf barCells ownCells toks)

/-- The protocol's element, all of it with device 0 until it is dealt. -/
def parked (c : Dev nD) : sProp 𝕄 := if c = 0 then BI.own (ER (launchOf barCells ownCells toks)) else iprop(emp)
/-- What is parked on all devices is the ghost state of the launch. -/
theorem parked_all : bigSep Finset.univ (parked (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The tokens of the duties on a device. -/
def devToks (c : Dev nD) : sProp 𝕄 :=
  iprop(dutyTok ER (barCell c) 0 true ∗ dutyTok ER (barCell c) 0 false ∗ dutyTok ER (crdCell c) 0 false
    ∗ dutyTok ER (snd0 c) 0 false ∗ dutyTok ER (snd1 c) 0 false ∗ dutyTok ER (snd2 c) 0 false
    ∗ dutyTok ER (rcv0 c) 0 false ∗ dutyTok ER (rcv1 c) 0 false ∗ dutyTok ER (rcv2 c) 0 false)

/-- Nine assertions one by one. -/
theorem bigSep_nine {M : Type} [URA M] (Φ : Fin 9 → sProp M) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-- The tokens of the launch, device by device. -/
theorem toks_eq : bigSep toks (fun x => (dutyTok ER x.1 x.2.1 x.2.2 : sProp 𝕄)) = bigSep Finset.univ fun c : Dev nD => devToks c := by
  unfold toks; rw [bigSep_map, bigSep_univ_prod]
  exact bigSep_congr fun c _ => by unfold devToks; rw [bigSep_nine]; rfl

/-- Every token goes to the device that pays with it. -/
theorem toks_around : (bigSep Finset.univ fun c : Dev nD => (devToks c : sProp 𝕄)) ⊢ bigSep Finset.univ fun c : Dev nD => tokens c := by
  refine Entails.of_eq ?_
  unfold devToks tokens
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring.symm (fun c : Dev nD => (dutyTok ER (crdCell c) 0 false : sProp 𝕄)),
    bigSep_univ_equiv ring (fun c : Dev nD => (dutyTok ER (rcv0 c) 0 false : sProp 𝕄)),
    bigSep_univ_equiv ring (fun c : Dev nD => (dutyTok ER (rcv1 c) 0 false : sProp 𝕄)),
    bigSep_univ_equiv ring (fun c : Dev nD => (dutyTok ER (rcv2 c) 0 false : sProp 𝕄))]
  rfl

section Deal

variable (A : Dev nD → Valuation τ sig (Elt F))

/-- What every device may consult: all the invariants, and that every barrier cell is at its first round. -/
def records (κ : GSem nD τ sig → ℕ) : sProp 𝕄 :=
  iprop((bigSep (barCells ∪ ownCells) fun g => cellInv ER (ringRd (wts A)) (κ g) g) ∗ bigSep barCells fun g => reached ER g 0)
instance records_persistent (κ : GSem nD τ sig → ℕ) : BI.Persistent (records A κ) := by unfold records; infer_instance

/-- The invariant of one cell out of all. -/
theorem inv_at (κ : GSem nD τ sig → ℕ) {g : GSem nD τ sig} (hg : g ∈ (barCells ∪ ownCells : Finset (GSem nD τ sig))) :
    (bigSep (barCells ∪ ownCells) fun g => (cellInv ER (ringRd (wts A)) (κ g) g : sProp 𝕄)) ⊢ cellInv ER (ringRd (wts A)) (κ g) g :=
  bigSep_elim hg
/-- Each barrier is at its first round. -/
theorem reached_at (c : Dev nD) : (bigSep barCells fun g => (reached ER g 0 : sProp 𝕄)) ⊢ reached ER (barCell c) 0 :=
  bigSep_elim (Finset.mem_map_of_mem barEmb (Finset.mem_univ c))

/-- The tokens by which a device opens its own cells. -/
def openToks (c : Dev nD) : sProp 𝕄 :=
  iprop(openTok ER (crdCell c) ∗ openTok ER (snd0 c) ∗ openTok ER (snd1 c) ∗ openTok ER (snd2 c)
      ∗ openTok ER (rcv0 c) ∗ openTok ER (rcv1 c) ∗ openTok ER (rcv2 c))

/-- What stays with a device. -/
def linear (c : Dev nD) : sProp 𝕄 := iprop(atPos ER (barCell c) 0 ∅ 0 ∗ openToks c ∗ tokens c)

/-- The invariants that a device uses. -/
theorem invs_of (κ : GSem nD τ sig → ℕ) (c : Dev nD) :
    (bigSep (barCells ∪ ownCells) fun g => (cellInv ER (ringRd (wts A)) (κ g) g : sProp 𝕄)) ⊢ invs (wts A) κ c := by
  unfold invs
  iintro #HI
  isplitr
  · isplitr; · iapply (inv_at A κ (bar_mem c)); iexact HI
    isplitr; · iapply (inv_at A κ (own_mem c 0)); iexact HI
    isplitr; · iapply (inv_at A κ (own_mem c 1)); iexact HI
    isplitr; · iapply (inv_at A κ (own_mem c 2)); iexact HI
    isplitr; · iapply (inv_at A κ (own_mem c 3)); iexact HI
    isplitr; · iapply (inv_at A κ (own_mem c 4)); iexact HI
    isplitr; · iapply (inv_at A κ (own_mem c 5)); iexact HI
    iapply (inv_at A κ (own_mem c 6)); iexact HI
  isplitr; · iapply (inv_at A κ (bar_mem (prv c))); iexact HI
  isplitr; · iapply (inv_at A κ (bar_mem (nxt c))); iexact HI
  isplitr; · iapply (inv_at A κ (own_mem (prv c) 0)); iexact HI
  isplitr; · iapply (inv_at A κ (own_mem (nxt c) 4)); iexact HI
  isplitr; · iapply (inv_at A κ (own_mem (nxt c) 5)); iexact HI
  iapply (inv_at A κ (own_mem (nxt c) 6)); iexact HI

/-- What all share and what a device has of its own is its ghost state. -/
theorem ghost_of (κ : GSem nD τ sig → ℕ) (c : Dev nD) : iprop(records A κ ∗ linear c) ⊢ iprop(∃ κ, ghost A κ c) := by
  unfold records linear ghost openToks
  iintro ⟨⟨#HI, #HR⟩, Ha, Ho, Ht⟩
  iexists κ
  isplitr; · iapply (invs_of A κ c); iexact HI
  isplitl [Ha]; · iexact Ha
  isplitl [Ho]; · iexact Ho
  isplitr
  · isplitr; · iapply (reached_at (F := F) (prv c)); iexact HR
    iapply (reached_at (F := F) (nxt c)); iexact HR
  iexact Ht

end Deal

end Cert.KernelIdeal

end
-- ==== Proof.Finish.lean ====
/- The whole program: the host operations and the call in order, and what the memory holds at the end. -/
module

public import proofs.«01_k».proof.Proof.Start
public import proofs.«01_k».proof.Proof.Gen.KernelIdeal.Frame
public import Idealize.ShloMosaic.Harness.Basic

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation)

/-! ## The host's operations as segments, and the run -/

variable (m : (ℓ : Loc nD τ sig) → Buf (Elt F) ℓ) (ρ : Dev nD → PrngReg)

/-- What the region finds in a device's memory. -/
def found (c : Dev nD) : Valuation τ sig (Elt F) :=
  StableHlo.after hostOps0_2 (StableHlo.after hostOps0_1 (StableHlo.after hostOps0 (fun b => m (c, b))))

/-- It is what the host operations leave. -/
theorem found_at (c : Dev nD) (b : Ref sig .tc) : found m c (Proc.devRef .tc b) = V m c b := by
  show _ = StableHlo.after (List.flatten [hostOps0, hostOps0_1, hostOps0_2]) (fun b => m (c, b)) (Proc.devRef .tc b)
  rw [List.flatten_cons, List.flatten_cons, List.flatten_cons, List.flatten_nil, List.append_nil, StableHlo.after_append, StableHlo.after_append]
  rfl

/-- What rides along under the host's operations. -/
def riding (c : Dev nD) : sProp 𝕄 :=
  iprop(handed (found m) c ∗ (∃ r, prngReg c r) ∗ ∃ W, owes (c : Thread nD τ) (O₀ c) W)

/-- A stretch of host operations as a segment. -/
def host (ops : List (HloOp τ sig (Elt F))) (hs : ops.Forall fun op => op.bufs ⊆ StableHlo.tcRefs τ sig)
    (hf : ops.Forall fun op => op.fresh = ∅) (W : Dev nD → Valuation τ sig (Elt F)) :
    Pipeline.HostSeg (Name := ℕ) (U := UU) (pcfgs (F := F)) defs₀ Variants.none L lv :=
  Pipeline.HostSeg.ofOps _ _ _ _ _ (Pipeline.ucRefs τ sig) ops
    (fun op h => Pipeline.sub_ucRefs op (List.forall_iff_forall_mem.mp hs op h))
    (fun op h => List.forall_iff_forall_mem.mp hf op h) W (riding m)

/-- Its program, -/
theorem host_prog (ops : List (HloOp τ sig (Elt F))) (hs hf W) : (host m ops hs hf W).prog = StableHlo.seq ops := rfl
/-- what it starts from, -/
theorem host_pre (ops : List (HloOp τ sig (Elt F))) (hs hf W) (c : Dev nD) :
    (host m ops hs hf W).pre c = iprop(StableHlo.held (c.tc : Thread nD τ) (Pipeline.ucRefs τ sig) (W c) ∗ riding m c) := rfl
/-- and what it ends in. -/
theorem host_post (ops : List (HloOp τ sig (Elt F))) (hs hf W) (c : Dev nD) :
    (host m ops hs hf W).post c = iprop(StableHlo.held (c.tc : Thread nD τ) (Pipeline.ucRefs τ sig) (StableHlo.after ops (W c)) ∗ riding m c) := rfl

/-- The segments of the program: three of the host and the call. -/
def segs : List (Pipeline.Seg (pcfgs (F := F)) adm (pdats (found m)) () defs₀ Variants.none L lv) :=
  [.host (host m hostOps0 hostOps0_sub hostOps0_fresh fun c b => m (c, b)),
    .host (host m hostOps0_1 hostOps0_1_sub hostOps0_1_fresh fun c => StableHlo.after hostOps0 (fun b => m (c, b))),
    .host (host m hostOps0_2 hostOps0_2_sub hostOps0_2_fresh fun c => StableHlo.after hostOps0_1 (StableHlo.after hostOps0 (fun b => m (c, b)))),
    .region (region (found m))]

/-- The program is its segments in order. -/
theorem main_eq (c : Dev nD) : main (F := F) c = Pipeline.Seg.run (segs m) := by
  rw [main_chain, Pipeline.Seg.run_eq_chain]
  rfl

/-- The call's arrays are among the buffers held. -/
theorem arrs_sub : Pipeline.arrRefs (τ := τ) spec0 ⊆ Pipeline.ucRefs τ sig :=
  Pipeline.arrRefs_sub_ucRefs spec0 (by decide : ∀ w, (Pipeline.arrRef spec0 w).isScoped = false)

/-- The buffers held, with those of the call taken out. -/
theorem region_in (A : Dev nD → Valuation τ sig (Elt F)) (c : Dev nD) :
    iprop(StableHlo.held (c.tc : Thread nD τ) (Pipeline.ucRefs τ sig) (A c) ∗ (handed A c ∗ (∃ r, prngReg c r) ∗ ∃ W, owes (c : Thread nD τ) (O₀ c) W))
      ⊢ (region A).pre c := by
  show _ ⊢ iprop(StableHlo.held (c.tc : Thread nD τ) (Pipeline.arrRefs (τ := τ) spec0) (A c) ∗ (∃ r, prngReg c r)
    ∗ (StableHlo.held (c.tc : Thread nD τ) others (A c) ∗ emp) ∗ handed A c ∗ ∃ Wd, owes (c : Thread nD τ) (0 + O₀ c) Wd)
  rw [zero_add, StableHlo.held_sub_split (c.tc : Thread nD τ) arrs_sub]
  iintro ⟨⟨Ha, Ho⟩, Hh, Hp, HO⟩
  isplitl [Ha]; · iexact Ha
  isplitl [Hp]; · iexact Hp
  isplitl [Ho]
  · isplitl [Ho]; · iexact Ho
    iempintro
  isplitl [Hh] <;> iassumption

/-- The same, put back. -/
theorem region_out (A : Dev nD → Valuation τ sig (Elt F)) (c : Dev nD) :
    (region A).post c ⊢ iprop((StableHlo.held (c.tc : Thread nD τ) (Pipeline.ucRefs τ sig) (left A c) ∗ semVal (barCell c) 0)
      ∗ ∃ W, owes (c : Thread nD τ) (0 : CellTallies nD τ sig Unit) W) := by
  show iprop(StableHlo.held (c.tc : Thread nD τ) (Pipeline.arrRefs (τ := τ) spec0) (left A c) ∗ (∃ r, prngReg c r)
    ∗ (StableHlo.held (c.tc : Thread nD τ) others (left A c) ∗ emp) ∗ semVal (barCell c) 0 ∗ ∃ Wd, owes (c : Thread nD τ) (0 : CellTallies nD τ sig Unit) Wd) ⊢ _
  rw [StableHlo.held_sub_split (c.tc : Thread nD τ) arrs_sub]
  iintro ⟨Ha, -, ⟨Ho, -⟩, Hb, HO⟩
  isplitr [HO]
  · isplitr [Hb]
    · isplitl [Ha] <;> iassumption
    iexact Hb
  iexact HO

/-- The one semaphore outside of the call is the barrier. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the protocol's. -/
def rest (c : Dev nD) : sProp 𝕄 :=
  iprop(StableHlo.held (c.tc : Thread nD τ) (Pipeline.ucRefs τ sig) (fun b => m (c, b)) ∗ credits c
    ∗ owes (c : Thread nD τ) (O₀ c) ∅ ∗ ∃ r, prngReg c r)

/-- What a device starts with. -/
def start (c : Dev nD) : sProp 𝕄 :=
  iprop(StableHlo.held (c.tc : Thread nD τ) (Pipeline.ucRefs τ sig) (fun b => m (c, b)) ∗ riding m c)

/-- What all share and what a device has give its start. -/
theorem start_of (κ : GSem nD τ sig → ℕ) (c : Dev nD) : iprop(records (found m) κ ∗ (linear c ∗ rest m c)) ⊢ start m c := by
  unfold rest start riding handed
  iintro ⟨#HR, Hl, Hh, Hc, HO, Hp⟩
  isplitl [Hh]; · iexact Hh
  isplitl [Hl Hc]
  · isplitl [Hl]
    · iapply (ghost_of (found m) κ c)
      isplitr; · iexact HR
      iexact Hl
    iexact Hc
  isplitl [Hp]; · iexact Hp
  iexists ∅; iexact HO

/-- What the launch gives a device, sorted. -/
theorem each (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(rest m c ∗ (semVal (barCell c) 0 ∗ parked c)) : sProp 𝕄) := by
  rw [show unscopedBufs c (fun b => m ((c : Thread nD τ).loc b)) = StableHlo.held (c.tc : Thread nD τ) (Pipeline.ucRefs τ sig) (fun b => m (c, b))
      from Pipeline.unscopedBufs_held c (fun b => m (c, b)), unscopedSems0_eq]
  unfold rest
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The counters of the barriers, as a set of cells. -/
theorem bars_in : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
/-- The positions of the barriers, device by device. -/
theorem bars_out : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
/-- The opening tokens, device by device. -/
theorem opens_out : bigSep ownCells (fun g => (openTok ER g : sProp 𝕄)) ⊢ bigSep Finset.univ (fun c : Dev nD => (openToks c : sProp 𝕄)) :=
  Entails.of_eq (by
    rw [bigSep_map, bigSep_univ_prod]
    exact bigSep_congr fun c _ => bigSep_seven (fun k : Fin 7 => (openTok ER ((c : Thread nD τ), osem k) : sProp 𝕄)))

/-- The launch deals every device what it starts with. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (start m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(rest m c ∗ (semVal (barCell c) 0 ∗ parked c)) : sProp 𝕄) from bigSep_mono fun c _ => each m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (parked (F := F)) ⊢ BI.own (ER (launchOf barCells ownCells toks)) from
    Entails.of_eq (parked_all (F := F))) $$ HG
  imod (Rounds.fund_launch ER (ringRd (wts (found m))) disjoint_cells (fun g _ h => h) toks) $$ [Hv Hu] with ⟨%κ, -, #Hinv, #Hr, Hat, Hopen, Htok⟩
  · isplitl [Hv]
    · iapply (bars_in (F := F)) $$ Hv
    · iexact Hu
  imodintro
  iapply (BI.bigSep_with_persistent (R := records (found m) κ) (Φ := fun c => iprop(linear c ∗ rest m c)) fun c _ => start_of m κ c)
  isplitr
  · unfold records
    isplitr; · iexact Hinv
    iexact Hr
  iapply Smoke.bigSep_pair
  isplitr [HB]
  · unfold linear
    iapply Smoke.bigSep_pair; isplitl [Hat]; · iapply (bars_out (F := F)) $$ Hat
    iapply Smoke.bigSep_pair; isplitl [Hopen]; · iapply (opens_out (F := F)) $$ Hopen
    iapply (toks_around (F := F))
    iapply (Entails.of_eq (toks_eq (F := F))) $$ Htok
  · iexact HB

/-- No other semaphore is outside of the call. -/
theorem unscoped_eq : ∀ sm : SemLoc sig, sm.isScoped .tc = false → sm = .reg barS := by decide

/-- The arguments and the result. -/
abbrev ends : List (Ref sig .tc) := [main_arg0, main_arg1, main_arg2, main_arg3, main_arg4, main_v54]

/-- The arrays read at the end are among the buffers held. -/
theorem ends_sub : (ends.map (Proc.devRef (τ := τ) .tc)).toFinset ⊆ Pipeline.ucRefs τ sig := fun b hb => by
  obtain ⟨r, hr, rfl⟩ := List.mem_map.mp (List.mem_toFinset.mp hb)
  exact Finset.mem_filter.mpr ⟨StableHlo.devRef_mem_tcRefs _, fun h => Bool.false_ne_true (((by decide : ∀ r ∈ ends, r.isScoped = false) r hr).symm.trans h)⟩

/-- They are held one by one. -/
theorem ends_list (c : Dev nD) (W : Valuation τ sig (Elt F)) :
    (StableHlo.held (c.tc : Thread nD τ) (ends.map (Proc.devRef (τ := τ) .tc)).toFinset W : sProp 𝕄)
      = iprop(((c.tc : Thread nD τ).loc main_arg0 ↦{fullShare} W (Proc.devRef .tc main_arg0))
        ∗ ((c.tc : Thread nD τ).loc main_arg1 ↦{fullShare} W (Proc.devRef .tc main_arg1))
        ∗ ((c.tc : Thread nD τ).loc main_arg2 ↦{fullShare} W (Proc.devRef .tc main_arg2))
        ∗ ((c.tc : Thread nD τ).loc main_arg3 ↦{fullShare} W (Proc.devRef .tc main_arg3))
        ∗ ((c.tc : Thread nD τ).loc main_arg4 ↦{fullShare} W (Proc.devRef .tc main_arg4))
        ∗ ((c.tc : Thread nD τ).loc main_v54 ↦{fullShare} W (Proc.devRef .tc main_v54))) := by
  unfold StableHlo.held
  rw [bigSep_eq_bigSepL_of_eq (ends.map (Proc.devRef (τ := τ) .tc)) rfl (by decide)]
  rfl

/-- They are read out of all buffers held. -/
theorem ends_held (c : Dev nD) (W : Valuation τ sig (Elt F)) :
    (StableHlo.held (c.tc : Thread nD τ) (Pipeline.ucRefs τ sig) W : sProp 𝕄)
      ⊢ iprop(((c.tc : Thread nD τ).loc main_arg0 ↦{fullShare} W (Proc.devRef .tc main_arg0))
        ∗ ((c.tc : Thread nD τ).loc main_arg1 ↦{fullShare} W (Proc.devRef .tc main_arg1))
        ∗ ((c.tc : Thread nD τ).loc main_arg2 ↦{fullShare} W (Proc.devRef .tc main_arg2))
        ∗ ((c.tc : Thread nD τ).loc main_arg3 ↦{fullShare} W (Proc.devRef .tc main_arg3))
        ∗ ((c.tc : Thread nD τ).loc main_arg4 ↦{fullShare} W (Proc.devRef .tc main_arg4))
        ∗ ((c.tc : Thread nD τ).loc main_v54 ↦{fullShare} W (Proc.devRef .tc main_v54))) := by
  rw [StableHlo.held_sub_split (c.tc : Thread nD τ) ends_sub]
  iintro ⟨H, -⟩
  iapply (Entails.of_eq (ends_list c W)) $$ H

set_option backward.isDefEq.respectTransparency.types false in
/-- The run: from any memory with zero counters every device ends with its arguments unchanged, with the value of the ring
    in its result, and with all counters zero. -/
theorem run_main : θ_run defs (onTc (τ := τ) (main (F := F))) ⟨m, fun _ => 0, ρ⟩
    (fun r => (∀ c : Dev nD, r.2.mem ((c : Thread nD τ).loc main_v54) = result (found m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats (found m)) () (launch0.toP.cellOf_inj adm) EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := start m) (Tₙ := fun c => iprop(StableHlo.held (c.tc : Thread nD τ) (Pipeline.ucRefs τ sig) (left (found m) c) ∗ semVal (barCell c) 0))
    (hch := ⟨fun c => .rfl, fun c => .rfl, fun c => .rfl, fun c => region_in (found m) c, fun c => region_out (found m) c⟩)
    (hinit := deal m ρ)
    (QY := fun c s => (s.mem ((c.tc : Thread nD τ).loc main_arg0) = left (found m) c (Proc.devRef .tc main_arg0)
      ∧ s.mem ((c.tc : Thread nD τ).loc main_arg1) = left (found m) c (Proc.devRef .tc main_arg1)
      ∧ s.mem ((c.tc : Thread nD τ).loc main_arg2) = left (found m) c (Proc.devRef .tc main_arg2)
      ∧ s.mem ((c.tc : Thread nD τ).loc main_arg3) = left (found m) c (Proc.devRef .tc main_arg3)
      ∧ s.mem ((c.tc : Thread nD τ).loc main_arg4) = left (found m) c (Proc.devRef .tc main_arg4)
      ∧ s.mem ((c.tc : Thread nD τ).loc main_v54) = left (found m) c (Proc.devRef .tc main_v54)) ∧ s.sem (barCell c) = 0)
    (hfin := fun c s' => by
      iintro ⟨⟨Hh, Hb0⟩, HSI⟩
      ihave Hx := (ends_held c (left (found m) c)) $$ Hh
      icases Hx with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        rw [left_other _ _ (StableHlo.devRef_ne_of_ne (by decide)), found_at] at h0 h1 h2 h3 h4
        exact ⟨h5.trans (left_result _ c), h0.trans (V_main_arg0 m c), h1.trans (V_main_arg1 m c), h2.trans (V_main_arg2 m c),
          h3.trans (V_main_arg3 m c), h4.trans (V_main_arg4 m c)⟩,
      sem_eq_zero hs fun c sm hsm => by
        obtain rfl := unscoped_eq sm hsm
        exact (h c).2⟩)

end Cert.KernelIdeal

end
-- ==== Proof.Soft.lean ====
/- The plain mathematics of the equation, over the extended reals and with no program in it: sums of real numbers, the swap of
   neighbouring columns, the softmax with and without its shift by the row maximum, and a sum over 4096 columns cut in blocks. -/
module

public import proofs.«01_k».proof.Proof.Gen.KernelIdeal
public import Idealize.ShloMosaic.Lib.IdealHost

@[expose] public section

noncomputable section

namespace Cert.Attn

open Idealize.ShloMosaic
open scoped BigOperators

/-- An extended real that is a real number. -/
def IsReal (x : EReal) : Prop := ∃ r : ℝ, x = (r : EReal)

/-- A real number is real; -/
theorem IsReal.coe (r : ℝ) : IsReal (r : EReal) := ⟨r, rfl⟩

/-- so is a product, -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- a sum of two, -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- a negative, -/
theorem IsReal.neg {x : EReal} (hx : IsReal x) : IsReal (-x) := by
  obtain ⟨a, rfl⟩ := hx; exact ⟨-a, (EReal.coe_neg a).symm⟩

/-- The sum of real numbers, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- and a sum of finitely many. -/
theorem IsReal.sum {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- The neighbour of a column in its pair of an even and an odd one. -/
def mate {n : ℕ} (h : n % 2 = 0) (d : Fin n) : Fin n :=
  ⟨if d.val % 2 = 0 then d.val + 1 else d.val - 1, by have := d.isLt; split <;> omega⟩

/-- A product with a table that has a one where the row is the column's neighbour and zeros elsewhere picks the neighbour. -/
theorem sum_mate {n : ℕ} (h : n % 2 = 0) (f t : Fin n → EReal) (d : Fin n) (ht : ∀ k, t k = if k = mate h d then 1 else 0) :
    ∑ k, f k * t k = f (mate h d) := by
  rw [Finset.sum_eq_single (mate h d)]
  · rw [ht, if_pos rfl, mul_one]
  · intro k _ hk; rw [ht, if_neg hk, mul_zero]
  · intro hk; exact absurd (Finset.mem_univ _) hk

/-- A sum times a nonnegative real number, term by term. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The quotient of two real numbers, the divisor positive. -/
theorem div_real (a b : ℝ) (hb : 0 < b) : Ideal.div (a : EReal) (b : EReal) = ((a / b : ℝ) : EReal) := by
  rw [Ideal.div, if_neg (by exact_mod_cast hb.ne'), ← EReal.coe_inv, ← EReal.coe_mul, div_eq_mul_inv]

/-- **The softmax without its shift is the softmax with it**: weights `exp` of real scores, any extended real values. -/
theorem soft_shift {n : ℕ} (hn : 0 < n) (s : Fin n → EReal) (M : EReal) (v : Fin n → EReal)
    (hs : ∀ j, IsReal (s j)) (hM : IsReal M) :
    (∑ j, Ideal.exp (s j) * v j) * Ideal.div 1 (∑ j, Ideal.exp (s j))
      = ∑ j, v j * Ideal.div (Ideal.exp (s j - M)) (∑ k, Ideal.exp (s k - M)) := by
  haveI : Nonempty (Fin n) := ⟨⟨0, hn⟩⟩
  choose r hr using hs
  obtain ⟨m, rfl⟩ := hM
  have he : ∀ j, Ideal.exp (s j) = ((Real.exp (r j) : ℝ) : EReal) := fun j => by rw [hr]; rfl
  have he' : ∀ j, Ideal.exp (s j - (m : EReal)) = ((Real.exp (r j - m) : ℝ) : EReal) := fun j => by
    rw [hr, ← EReal.coe_sub]; rfl
  simp only [he, he']
  rw [← coe_sum, ← coe_sum]
  have hZ : 0 < ∑ j, Real.exp (r j) := Finset.sum_pos (fun j _ => Real.exp_pos _) Finset.univ_nonempty
  have hZ' : 0 < ∑ j, Real.exp (r j - m) := Finset.sum_pos (fun j _ => Real.exp_pos _) Finset.univ_nonempty
  have h1 : Ideal.div 1 (((∑ j, Real.exp (r j) : ℝ)) : EReal) = ((1 / (∑ j, Real.exp (r j)) : ℝ) : EReal) := by
    rw [← div_real 1 _ hZ]; rfl
  rw [h1, sum_mul_real _ _ _ (by positivity)]
  refine Finset.sum_congr rfl fun j _ => ?_
  rw [div_real _ _ hZ', mul_right_comm, ← EReal.coe_mul, mul_comm]
  congr 2
  simp only [Real.exp_sub]
  rw [← Finset.sum_div]
  have := Real.exp_pos m
  field_simp

/-- The sum over 4096 columns in blocks: four devices of four pairs of heads of 256 columns. -/
theorem sum_blocks (f : Fin 4096 → EReal) :
    ∑ n, f n = ∑ c : Fin 4, ∑ p : Fin 4, ∑ t : Fin 256, f ⟨1024 * c.val + 256 * p.val + t.val, by omega⟩ := by
  let e : (Fin 4 × Fin 4) × Fin 256 ≃ Fin 4096 := ((finProdFinEquiv (m := 4) (n := 4)).prodCongr (Equiv.refl _)).trans (finProdFinEquiv (m := 16) (n := 256))
  rw [← Equiv.sum_comp e, Fintype.sum_prod_type, Fintype.sum_prod_type]
  refine Finset.sum_congr rfl fun c _ => Finset.sum_congr rfl fun p _ => Finset.sum_congr rfl fun t _ => congrArg f (Fin.ext ?_)
  show t.val + 256 * (p.val + 4 * c.val) = 1024 * c.val + 256 * p.val + t.val
  omega

/-- The maximum of finitely many real numbers, from minus infinity, is a real number. -/
theorem isReal_fold_max {ι : Type} (l : List ι) (hl : l ≠ []) (f : ι → EReal) (hf : ∀ i, IsReal (f i)) :
    IsReal (l.foldl (fun a i => max a (f i)) ⊥) := by
  have key : ∀ (l : List ι) (a : EReal), IsReal a → IsReal (l.foldl (fun a i => max a (f i)) a) := by
    intro l
    induction l with
    | nil => intro a ha; exact ha
    | cons i l ih =>
      intro a ha
      refine ih _ ?_
      show IsReal (max a (f i))
      rcases max_choice a (f i) with h | h <;> rw [h]
      · exact ha
      · exact hf i
  cases l with
  | nil => exact absurd rfl hl
  | cons i l => exact key l _ (by show IsReal (max ⊥ (f i)); rw [max_eq_right bot_le]; exact hf i)

end Cert.Attn

end
-- ==== Proof.KerMath.lean ====
/- The kernel's vectors at an index over the extended reals: a pair of heads, a trip, a hop and the whole output as sums. -/
module

public import proofs.«01_k».proof.Proof.Values
public import proofs.«01_k».proof.Proof.Soft
public import Idealize.ShloMosaic.Lib.Pipeline.Value
public import Idealize.ShloMosaic.Lib.ValueLayout
public import Idealize.ShloMosaic.Lib.ValueLayoutCasts
public import Idealize.ShloMosaic.Lib.ValueIdx
public import Idealize.ShloMosaic.Lib.MatmulPlain
public import Idealize.ShloMosaic.Lib.IdealHost
public import Idealize.ShloMosaic.PureOps.Ideal.Laws

@[expose] public section

set_option maxHeartbeats 400000

noncomputable section

namespace Cert.KernelIdeal

open Idealize.ShloMosaic Idealize.ShloMosaic.ValueIdx Cert.Attn
open Cert.KernelIdeal.Facts₀ Cert.KernelIdeal.Facts
open scoped BigOperators

/-- The factor on the queries, the inverse root of the head size. -/
def scl : EReal := Ideal.ofBits .f32 0x3DB504F3#32

/-- Column `d` of the head that column `t` of a pair of heads lies in. -/
def inHead (t : Fin 256) (d : Fin 128) : Fin 256 := ⟨128 * (t.val / 128) + d.val, by omega⟩

/-- The column of a table of angles that column `t` of a pair of heads uses. -/
def freq (t : Fin 256) : Fin 64 := ⟨t.val % 128 / 2, by omega⟩

/-- A product of a matrix and a matrix, onto zeros. -/
theorem mm_plain {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  rw [constant_apply, Ideal.ofBits_zero_f32, zero_add]

/-- A product of a matrix and a transposed one, onto zeros. -/
theorem mm_trans {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (i : Fin M) (j : Fin N) :
    matmul d none l r (constant ⟨2, ![M, N]⟩ .f32 0x00000000#32) (ix2 i j) = ∑ k : Fin K, l (ix2 i k) * r (ix2 j k) := by
  subst hd
  refine (Ideal.matmul_transposedRhs_apply none l r _ i j).trans ?_
  rw [constant_apply, Ideal.ofBits_zero_f32, zero_add]

/-- A key at an entry. -/
theorem keyV_apply (x : FVec Ideal S2048x1024 .bf16) (sw : FVec Ideal S256x256 .bf16) (cs sn : FVec Ideal S2048x256 .f32) (wk : FVec Ideal S1024x256 .bf16)
    (hsw : ∀ u t, sw (ix2 u t) = if u = mate (by decide) t then 1 else 0) (j : Fin 2048) (t : Fin 256) :
    keyV x sw cs sn wk (ix2 j t) = (∑ k : Fin 1024, x (ix2 j k) * wk (ix2 k t)) * cs (ix2 j t)
      + (∑ k : Fin 1024, x (ix2 j k) * wk (ix2 k (mate (by decide) t))) * sn (ix2 j t) := by
  unfold keyV
  rw [truncf_apply, addf_apply, mulf_apply, mulf_apply, mm_plain dot_S2048x1024_S1024x256_S2048x256_1_0_0_1_n_n rfl, mm_plain dot_S2048x256_S256x256_S2048x256_1_0_0_1_n_n rfl, sum_mate _ _ _ t fun u => hsw u t, truncf_apply, mm_plain dot_S2048x1024_S1024x256_S2048x256_1_0_0_1_n_n rfl]

/-- A query at an entry. -/
theorem qryV_apply (x : FVec Ideal S512x1024 .bf16) (sw : FVec Ideal S256x256 .bf16) (cs sn : FVec Ideal S512x256 .f32) (wq : FVec Ideal S1024x256 .bf16)
    (hsw : ∀ u t, sw (ix2 u t) = if u = mate (by decide) t then 1 else 0) (j : Fin 512) (t : Fin 256) :
    qryV x sw cs sn wq (ix2 j t) = ((∑ k : Fin 1024, x (ix2 j k) * wq (ix2 k t)) * cs (ix2 j t)
      + (∑ k : Fin 1024, x (ix2 j k) * wq (ix2 k (mate (by decide) t))) * sn (ix2 j t)) * scl := by
  unfold qryV
  rw [truncf_apply, mulf_apply, addf_apply, mulf_apply, mulf_apply, mm_plain dot_S512x1024_S1024x256_S512x256_1_0_0_1_n_n rfl, mm_plain dot_S512x256_S256x256_S512x256_1_0_0_1_n_n rfl, sum_mate _ _ _ t fun u => hsw u t, truncf_apply, mm_plain dot_S512x1024_S1024x256_S512x256_1_0_0_1_n_n rfl]
  rfl

/-- A value at an entry. -/
theorem valV_apply (x : FVec Ideal S2048x1024 .bf16) (wv : FVec Ideal S1024x256 .bf16) (j : Fin 2048) (t : Fin 256) :
    valV x wv (ix2 j t) = ∑ k : Fin 1024, x (ix2 j k) * wv (ix2 k t) := by
  unfold valV
  rw [truncf_apply, mm_plain dot_S2048x1024_S1024x256_S2048x256_1_0_0_1_n_n rfl]

/-- A head at an entry. -/
theorem headV_apply (q : FVec Ideal S512x128 .fp8e4m3) (k v : FVec Ideal S2048x128 .fp8e4m3) (r : Fin 512) (d : Fin 128) :
    headV q k v (ix2 r d) = (∑ j : Fin 2048, Ideal.exp (∑ u : Fin 128, q (ix2 r u) * k (ix2 j u)) * v (ix2 j d))
      * Ideal.div 1 (∑ j : Fin 2048, Ideal.exp (∑ u : Fin 128, q (ix2 r u) * k (ix2 j u))) := by
  have he : ∀ j : Fin 2048, exp (matmul dot_S512x128_S2048x128_S512x2048_1_1_0_0_n_n none q k (constant S512x2048 .f32 0x00000000#32)) (ix2 r j)
      = Ideal.exp (∑ u : Fin 128, q (ix2 r u) * k (ix2 j u)) := fun j => congrArg Ideal.exp (mm_trans _ rfl q k r j)
  unfold headV
  rw [mulf_apply, mm_plain dot_S512x2048_S2048x128_S512x128_1_0_0_1_n_n rfl]
  refine congrArg₂ (fun a b : EReal => a * b) (Finset.sum_congr rfl fun j _ => ?_) ?_
  · rw [truncf_apply, he]
  · rw [broadcastTo_apply _ _ _ (ix2 r (0 : Fin 1)) (by intro a; match a with | ⟨0, _⟩ => rfl | ⟨1, _⟩ => rfl), divf_apply]
    refine congrArg₂ Ideal.div Ideal.ofBits_one_f32 ?_
    rw [shapeCast_a_a1_apply]
    refine (Ideal.multiReduction_add_single (s := S512x2048) (t := S512) (a := (1 : Fin 2)) _ _ _ _ _ (ix1 r)).trans ?_
    refine Finset.sum_congr rfl fun j _ => Eq.trans (congrArg _ ?_) (he j)
    funext a; apply Fin.ext
    match a with
    | ⟨0, _⟩ => rfl
    | ⟨1, _⟩ => rfl

/-- One column of a pair of heads' result on one row, from rotated queries and keys. -/
def mix (q : Fin 256 → EReal) (k v : Fin 2048 → Fin 256 → EReal) (t : Fin 256) : EReal :=
  (∑ j : Fin 2048, Ideal.exp (∑ d : Fin 128, q (inHead t d) * k j (inHead t d)) * v j t)
    * Ideal.div 1 (∑ j : Fin 2048, Ideal.exp (∑ d : Fin 128, q (inHead t d) * k j (inHead t d)))

/-- A pair of heads through the output matrix, at an entry. -/
theorem pairV_apply (q : FVec Ideal S512x256 .fp8e4m3) (k v : FVec Ideal S2048x256 .fp8e4m3) (wo : FVec Ideal S256x1024 .bf16) (r : Fin 512) (e : Fin 1024) :
    pairV q k v wo (ix2 r e) = ∑ t : Fin 256, mix (fun t => q (ix2 r t)) (fun j t => k (ix2 j t)) (fun j t => v (ix2 j t)) t * wo (ix2 t e) := by
  unfold pairV
  rw [mm_plain dot_S512x256_S256x1024_S512x1024_1_0_0_1_n_n rfl]
  refine Finset.sum_congr rfl fun t _ => congrArg (fun a : EReal => a * wo (ix2 t e)) ?_
  rw [truncf_apply]
  by_cases ht : t.val < 128
  · refine (concatenate_pair_apply_left (t := S512x256) (s₁ := S512x128) (s₂ := S512x128) (1 : Fin 2) _ _ _ _ rfl (ix2 r (⟨t.val, ht⟩ : Fin 128)) (by
      intro a; match a with | ⟨0, _⟩ => rfl | ⟨1, _⟩ => rfl)).trans ?_
    rw [headV_apply]
    have hcol : ∀ u : Fin 128, inHead t u = ⟨0 + u.val, by omega⟩ := fun u => Fin.ext (by
      show 128 * (t.val / 128) + u.val = 0 + u.val
      rw [Nat.div_eq_of_lt ht])
    have ht' : t = ⟨0 + t.val, by omega⟩ := Fin.ext (Nat.zero_add _).symm
    unfold mix
    simp only [slice2_axis1_eq, hcol]
    congr 1
    refine Finset.sum_congr rfl fun j _ => ?_
    rw [← ht']
  · refine (concatenate_pair_apply_right (t := S512x256) (s₁ := S512x128) (s₂ := S512x128) (1 : Fin 2) _ _ _ _ rfl rfl (ix2 r (⟨t.val - 128, by omega⟩ : Fin 128)) (by
      intro a ha; match a, ha with | ⟨0, _⟩, _ => rfl | ⟨1, _⟩, ha => exact absurd rfl ha) (by
      show t.val - 128 + 128 = t.val
      omega)).trans ?_
    rw [headV_apply]
    have hcol : ∀ u : Fin 128, inHead t u = ⟨128 + u.val, by omega⟩ := fun u => Fin.ext (by
      show 128 * (t.val / 128) + u.val = 128 + u.val
      have : t.val / 128 = 1 := by omega
      omega)
    have ht' : (⟨128 + (t.val - 128), by omega⟩ : Fin 256) = t := Fin.ext (by show 128 + (t.val - 128) = t.val; omega)
    unfold mix
    simp only [slice2_axis1_eq, hcol, ht']

/-- A projection by the columns of one pair of heads, at a row and a column. -/
def projK (x : FVec Ideal S2048x1024 .bf16) (W : Vec Ideal S4x1024x1024 .bf16) (m p : Fin 4) (i : Fin 2048) (t : Fin 256) : EReal :=
  ∑ k : Fin 1024, x (ix2 i k) * W (ix3 m k (⟨256 * p.val + t.val, by omega⟩ : Fin 1024))

/-- The rotary embedding as the kernel writes it: the neighbour's column against a table with alternating signs. -/
def rotK (θ : Fin 2048 → Fin 64 → EReal) (r : Fin 2048 → Fin 256 → EReal) (i : Fin 2048) (t : Fin 256) : EReal :=
  r i t * Ideal.cos (θ i (freq t)) + r i (mate (by decide) t) * (Ideal.sin (θ i (freq t)) * (if t.val % 2 = 0 then -1 else 1))

/-- What one pair of heads adds to one entry of the output. -/
def addK (θ : Fin 2048 → Fin 64 → EReal) (x : FVec Ideal S2048x1024 .bf16) (W : Vec Ideal S4x1024x1024 .bf16) (p : Fin 4) (i : Fin 2048) (e : Fin 1024) : EReal :=
  ∑ t : Fin 256, mix (fun t => rotK θ (projK x W 0 p) i t * scl) (fun j t => rotK θ (projK x W 1 p) j t) (fun j t => projK x W 2 p j t) t
    * W (ix3 (3 : Fin 4) (⟨256 * p.val + t.val, by omega⟩ : Fin 1024) e)

/-- The tables the kernel reads: the neighbour table, the cosines, and the sines with their signs. -/
structure Tables (θ : Fin 2048 → Fin 64 → EReal) (sw : FVec Ideal S256x256 .bf16) (cs sn : FVec Ideal S2048x256 .f32) : Prop where
  swap : ∀ u t, sw (ix2 u t) = if u = mate (by decide) t then 1 else 0
  cosine : ∀ i t, cs (ix2 i t) = Ideal.cos (θ i (freq t))
  sine : ∀ i t, sn (ix2 i t) = Ideal.sin (θ i (freq t)) * (if t.val % 2 = 0 then -1 else 1)

variable {θ : Fin 2048 → Fin 64 → EReal} {sw : FVec Ideal S256x256 .bf16} {cs sn : FVec Ideal S2048x256 .f32}

/-- What a pair adds to a block of rows, at an entry. -/
theorem contribV_apply (T : Tables θ sw cs sn) (x : FVec Ideal S2048x1024 .bf16) (W : Vec Ideal S4x1024x1024 .bf16) (p b : Fin 4) (r : Fin 512) (e : Fin 1024) :
    contribV x x sw cs sn W p b (ix2 r e) = addK θ x W p (⟨512 * b.val + r.val, by omega⟩ : Fin 2048) e := by
  unfold contribV
  rw [pairV_apply]
  unfold addK
  refine Finset.sum_congr rfl fun t _ => congrArg₂ (fun a b : EReal => a * b) ?_ rfl
  have hq : ∀ t : Fin 256, qryV (VecWindow.window (s := S2048x1024) x ![512 * b.val, 0] S512x1024.size (in_row b)) sw
      (extractStridedSlice S512x256 ![512 * b.val, 0] cs (in_tab b)) (extractStridedSlice S512x256 ![512 * b.val, 0] sn (in_tab b)) (wcolV W 0 p) (ix2 r t)
      = rotK θ (projK x W 0 p) (⟨512 * b.val + r.val, by omega⟩ : Fin 2048) t * scl := by
    intro t
    have hx : ∀ k : Fin 1024, VecWindow.window (s := S2048x1024) x ![512 * b.val, 0] S512x1024.size (in_row b) (ix2 r k)
        = x (ix2 (⟨512 * b.val + r.val, by omega⟩ : Fin 2048) k) := fun k => congrArg x (by
      funext a; apply Fin.ext
      match a with
      | ⟨0, _⟩ => show 512 * b.val + 1 * r.val = 512 * b.val + r.val; omega
      | ⟨1, _⟩ => show 0 + 1 * k.val = k.val; omega)
    refine (qryV_apply _ sw _ _ _ T.swap r t).trans ?_
    simp only [hx]
    rw [slice2_axis0_eq, slice2_axis0_eq, T.cosine, T.sine]
    rfl
  have hk : ∀ (j : Fin 2048) (t : Fin 256), keyV x sw cs sn (wcolV W 1 p) (ix2 j t) = rotK θ (projK x W 1 p) j t := by
    intro j t
    rw [keyV_apply x sw cs sn _ T.swap, T.cosine, T.sine]
    rfl
  have hv : ∀ (j : Fin 2048) (t : Fin 256), valV x (wcolV W 2 p) (ix2 j t) = projK x W 2 p j t := by
    intro j t
    rw [valV_apply]
    rfl
  simp only [hq, hk, hv]

/-- Rows `n …` of the output put: the rows read back. -/
theorem put_apply (o : Vec Ideal S1x2048x1024 .f32) (n : ℕ) (w : Vec Ideal S1x512x1024 .f32) (i : Fin 2048) (e : Fin 1024) :
    VecWindow.put (s := S1x2048x1024) o ![0, n, 0] S1x512x1024.size w (ix3 (0 : Fin 1) i e)
      = if h : n ≤ i.val ∧ i.val < n + 512 then w (ix3 (0 : Fin 1) (⟨i.val - n, by omega⟩ : Fin 512) e) else o (ix3 (0 : Fin 1) i e) := by
  unfold VecWindow.put
  by_cases h : n ≤ i.val ∧ i.val < n + 512
  · have h' : ∀ a, (![0, n, 0] : Fin 3 → ℕ) a ≤ ((ix3 (0 : Fin 1) i e : S1x2048x1024.Idx) a).val ∧ ((ix3 (0 : Fin 1) i e : S1x2048x1024.Idx) a).val < (![0, n, 0] : Fin 3 → ℕ) a + S1x512x1024.size a := by
      intro a
      match a with
      | ⟨0, _⟩ => exact ⟨Nat.le_refl _, by show 0 < 0 + 1; omega⟩
      | ⟨1, _⟩ => exact h
      | ⟨2, _⟩ => exact ⟨Nat.zero_le _, by show e.val < 0 + 1024; omega⟩
    rw [dif_pos h, dif_pos h']
    refine congrArg w ?_
    funext a; apply Fin.ext
    match a with
    | ⟨0, _⟩ => rfl
    | ⟨1, _⟩ => rfl
    | ⟨2, _⟩ => rfl
  · rw [dif_neg h, dif_neg fun h' => h (h' (1 : Fin 3))]

/-- A block of rows after a pair, at an entry. -/
theorem stepV_apply (T : Tables θ sw cs sn) (x : FVec Ideal S2048x1024 .bf16) (W : Vec Ideal S4x1024x1024 .bf16) (p b : Fin 4) (o : Vec Ideal S1x2048x1024 .f32) (r : Fin 512) (e : Fin 1024) :
    stepV x x sw cs sn W p o b (ix3 (0 : Fin 1) r e)
      = o (ix3 (0 : Fin 1) (⟨512 * b.val + r.val, by omega⟩ : Fin 2048) e) + addK θ x W p (⟨512 * b.val + r.val, by omega⟩ : Fin 2048) e := by
  unfold stepV addV
  rw [shapeCast_ab_1ab_apply, addf_apply, shapeCast_1ab_ab_apply, contribV_apply T]
  refine congrArg (fun a : EReal => a + _) (congrArg o ?_)
  funext a; apply Fin.ext
  match a with
  | ⟨0, _⟩ => rfl
  | ⟨1, _⟩ => show 512 * b.val + 1 * r.val = 512 * b.val + r.val; omega
  | ⟨2, _⟩ => show 0 + 1 * e.val = e.val; omega

/-- The output after a trip of the loop, at an entry. -/
theorem tripV_apply (T : Tables θ sw cs sn) (x : FVec Ideal S2048x1024 .bf16) (W : Vec Ideal S4x1024x1024 .bf16) (p : Fin 4) (o : Vec Ideal S1x2048x1024 .f32) (i : Fin 2048) (e : Fin 1024) :
    tripV x x sw cs sn W p o (ix3 (0 : Fin 1) i e) = o (ix3 (0 : Fin 1) i e) + addK θ x W p i e := by
  have key : ∀ (b : Fin 4) (h : 512 * b.val ≤ i.val) (h' : i.val < 512 * b.val + 512),
      stepV x x sw cs sn W p o b (ix3 (0 : Fin 1) (⟨i.val - 512 * b.val, by omega⟩ : Fin 512) e) = o (ix3 (0 : Fin 1) i e) + addK θ x W p i e := by
    intro b h h'
    rw [stepV_apply T]
    have hi : (⟨512 * b.val + (i.val - 512 * b.val), by omega⟩ : Fin 2048) = i := Fin.ext (by show 512 * b.val + (i.val - 512 * b.val) = i.val; omega)
    rw [hi]
  unfold tripV
  rw [put_apply]
  by_cases h3 : 1536 ≤ i.val ∧ i.val < 1536 + 512
  · rw [dif_pos h3]; exact key 3 h3.1 h3.2
  rw [dif_neg h3, put_apply]
  by_cases h2 : 1024 ≤ i.val ∧ i.val < 1024 + 512
  · rw [dif_pos h2]; exact key 2 h2.1 h2.2
  rw [dif_neg h2, put_apply]
  by_cases h1 : 512 ≤ i.val ∧ i.val < 512 + 512
  · rw [dif_pos h1]; exact key 1 h1.1 h1.2
  rw [dif_neg h1, put_apply, dif_pos (by omega)]
  exact key 0 (by omega) (by show i.val < 512 * 0 + 512; omega)

/-- The output after a hop, at an entry. -/
theorem hopV_apply (T : Tables θ sw cs sn) (x : FVec Ideal S2048x1024 .bf16) (W : Vec Ideal S4x1024x1024 .bf16) (o : Vec Ideal S1x2048x1024 .f32) (i : Fin 2048) (e : Fin 1024) :
    hopV x x sw cs sn W o 4 (ix3 (0 : Fin 1) i e) = o (ix3 (0 : Fin 1) i e) + ∑ p : Fin 4, addK θ x W p i e := by
  unfold hopV
  rw [dif_pos (by decide), tripV_apply T]
  unfold hopV
  rw [dif_pos (by decide), tripV_apply T]
  unfold hopV
  rw [dif_pos (by decide), tripV_apply T]
  unfold hopV
  rw [dif_pos (by decide), tripV_apply T]
  unfold hopV
  rw [Fin.sum_univ_four]
  simp only [add_assoc]
  rfl

/-- **The output at an entry**: from zero, what each pair of heads of each of the four stacks adds. -/
theorem outV_apply (T : Tables θ sw cs sn) (x : FVec Ideal S2048x1024 .bf16) (W0 W1 W2 W3 : Vec Ideal S4x1024x1024 .bf16) (i : Fin 2048) (e : Fin 1024) :
    outV x sw cs sn W0 W1 W2 W3 (ix3 (0 : Fin 1) i e) = (∑ p : Fin 4, addK θ x W0 p i e) + (∑ p : Fin 4, addK θ x W1 p i e)
      + (∑ p : Fin 4, addK θ x W2 p i e) + ∑ p : Fin 4, addK θ x W3 p i e := by
  unfold outV
  rw [hopV_apply T, hopV_apply T, hopV_apply T, hopV_apply T]
  have h0 : (zeroV (F := Ideal)) (ix3 (0 : Fin 1) i e) = 0 := Ideal.ofBits_zero_f32
  rw [h0, zero_add]

end Cert.KernelIdeal

end
-- ==== Proof.Tables.lean ====
/- The arrays the kernel is launched on, as the host's operations leave them: the input block, the stack of weights and the
   tables, each as a term of the arguments and each read at an index. -/
module

public import proofs.«01_k».proof.Proof.Gen.KernelIdeal.Frame
public import proofs.«01_k».proof.Proof.KerMath
public import Idealize.ShloMosaic.Lib.StableHlo.RunClose
public import Idealize.ShloMosaic.Lib.WordCmp

@[expose] public section

set_option maxHeartbeats 2000000
set_option maxRecDepth 8192

noncomputable section

namespace Cert.KernelIdeal

open Idealize.ShloMosaic Idealize.ShloMosaic.TcCoe Idealize.ShloMosaic.ValueIdx Cert.Attn
open Cert.KernelIdeal.Gen (V)
open Cert.KernelIdeal.Facts₀ Cert.KernelIdeal.Facts
open scoped BigOperators

/-- The angles: position times inverse frequency. -/
def angK : FVec Ideal S2048x64 .f32 :=
  mulf (broadcastInDim S2048x64 ![0, 1] bcast_S2048x1_S2048x64_0_1 (sitofp .f32 (broadcastInDim S2048x1 ![0] bcast_S2048_S2048x1_0 (iotaInDim S2048 32 0)))) (broadcastInDim S2048x64 ![0, 1] bcast_S1x64_S2048x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (sitofp .f32 (addi (broadcastInDim S64 ![] bcast_S_S64 (constantI S_ 32 0#32)) (muli (broadcastInDim S64 ![] bcast_S_S64 (constantI S_ 32 2#32)) (iotaInDim S64 32 0)))) (broadcastInDim S64 ![] bcast_S_S64 (constant S_ .f32 0x43000000#32)))))))

/-- A table of 64 columns, each doubled. -/
def dblK (t : FVec Ideal S2048x64 .f32) : FVec Ideal S2048x128 .f32 :=
  shapeCast S2048x128 (broadcastInDim S2048x64x2 ![0, 1] bcast_S2048x64_S2048x64x2_0_1 t) shapeCasts_S2048x64x2_S2048x128

/-- A table of one head, for two. -/
def twoK (t : FVec Ideal S2048x128 .f32) : FVec Ideal S2048x256 .f32 :=
  shapeCast S2048x256 (broadcastInDim S1x2048x2x128 ![0, 1, 2, 3] bcast_S1x2048x1x128_S1x2048x2x128_0_1_2_3 (shapeCast S1x2048x1x128 t shapeCasts_S2048x128_S1x2048x1x128)) shapeCasts_S1x2048x2x128_S2048x256

/-- The alternating signs. -/
def sgnK : FVec Ideal S2048x128 .f32 :=
  broadcastInDim S2048x128 ![0, 1] bcast_S1x128_S2048x128_0_1 (broadcastInDim S1x128 ![1] bcast_S128_S1x128_1 (shapeCast S128 (broadcastInDim S64x2 ![0, 1] bcast_S1x2_S64x2_0_1 (shapeCast S1x2 (fun i => FloatOps.ofBits .f32 (lit0 (S2.rowMajor i)) : FVec Ideal S2 .f32) shapeCasts_S2_S1x2)) shapeCasts_S64x2_S128))

/-- The table of neighbours. -/
def swpK : FVec Ideal S256x256 .bf16 :=
  truncf .bf16 (select (cmpi .eq (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (xori (iotaInDim S256 32 0) (broadcastInDim S256 ![] bcast_S_S256 (constantI S_ 32 1#32))))))
    (broadcastInDim S256x256 ![] bcast_S_S256x256 (constant S_ .f32 0x3F800000#32)) (broadcastInDim S256x256 ![] bcast_S_S256x256 (constant S_ .f32 0x00000000#32)) : FVec Ideal S256x256 .f32) bitsLt_bf16_f32

/-- One matrix of the stack. -/
def oneK (w : FVec Ideal S1024x1024 .bf16) : FVec Ideal S1x1024x1024 .bf16 := broadcastInDim S1x1024x1024 ![1, 2] bcast_S1024x1024_S1x1024x1024_1_2 w

variable (m : (ℓ : Loc nD τ sig) → Buf (Elt Ideal) ℓ) (c : Dev nD)

/-- The input block, without its axis of length one. -/
theorem V_x : V m c main_v1 = shapeCast S2048x1024 (m ((c.tc : Thread nD τ).loc main_arg0)) shapeCasts_S1x2048x1024_S2048x1024 := by
  unfold Gen.V
  simp only [List.flatten_cons, List.flatten_nil, List.append_nil, List.cons_append, List.nil_append]
  after_results_simp <;> rfl

/-- The cosine table. -/
theorem V_cos : V m c main_v40 = twoK (dblK (Host.cos angK)) := by
  unfold Gen.V
  simp only [List.flatten_cons, List.flatten_nil, List.append_nil, List.cons_append, List.nil_append]
  after_results_simp <;> rfl

/-- The sine table, with its signs. -/
theorem V_sin : V m c main_v43 = twoK (mulf (dblK (Host.sin angK)) sgnK) := by
  unfold Gen.V
  simp only [List.flatten_cons, List.flatten_nil, List.append_nil, List.cons_append, List.nil_append]
  after_results_simp <;> rfl

/-- The table of neighbours. -/
theorem V_swap : V m c main_v53 = swpK := by
  unfold Gen.V
  simp only [List.flatten_cons, List.flatten_nil, List.append_nil, List.cons_append, List.nil_append]
  after_results_simp <;> rfl

/-- The stack of weights. -/
theorem V_w : V m c main_v6 = concatenate S4x1024x1024 0 [⟨S1x1024x1024, oneK (m ((c.tc : Thread nD τ).loc main_arg1))⟩, ⟨S1x1024x1024, oneK (m ((c.tc : Thread nD τ).loc main_arg2))⟩,
    ⟨S1x1024x1024, oneK (m ((c.tc : Thread nD τ).loc main_arg3))⟩, ⟨S1x1024x1024, oneK (m ((c.tc : Thread nD τ).loc main_arg4))⟩] concatenates_S1x1024x1024_S1x1024x1024_S1x1024x1024_S1x1024x1024_S4x1024x1024_d0 := by
  unfold Gen.V
  simp only [List.flatten_cons, List.flatten_nil, List.append_nil, List.cons_append, List.nil_append]
  after_results_simp <;> rfl

/-- A doubled table at an entry. -/
theorem dblK_apply (t : FVec Ideal S2048x64 .f32) (i : Fin 2048) (d : Fin 128) :
    dblK t (ix2 i d) = t (ix2 i (⟨d.val / 2, by omega⟩ : Fin 64)) := by
  unfold dblK
  rw [shapeCast_apply _ _ _ (ix3 i (⟨d.val / 2, by omega⟩ : Fin 64) (⟨d.val % 2, by omega⟩ : Fin 2)) (by
      rw [Shape.rowMajor_val_three, Shape.rowMajor_val_two]
      show (i.val * 64 + d.val / 2) * 2 + d.val % 2 = i.val * 128 + d.val
      omega),
    broadcastInDim_apply _ _ _ _ (ix2 i (⟨d.val / 2, by omega⟩ : Fin 64)) (by intro a; match a with | ⟨0, _⟩ => rfl | ⟨1, _⟩ => rfl)]

/-- A table for two heads at an entry. -/
theorem twoK_apply (t : FVec Ideal S2048x128 .f32) (i : Fin 2048) (u : Fin 256) :
    twoK t (ix2 i u) = t (ix2 i (⟨u.val % 128, by omega⟩ : Fin 128)) := by
  unfold twoK
  rw [shapeCast_apply _ _ _ (ix4 (0 : Fin 1) i (⟨u.val / 128, by omega⟩ : Fin 2) (⟨u.val % 128, by omega⟩ : Fin 128)) (by
      rw [Shape.rowMajor_val_four, Shape.rowMajor_val_two]
      show ((0 * 2048 + i.val) * 2 + u.val / 128) * 128 + u.val % 128 = i.val * 256 + u.val
      omega),
    broadcastInDim_apply _ _ _ _ (ix4 (0 : Fin 1) i (0 : Fin 1) (⟨u.val % 128, by omega⟩ : Fin 128)) (by intro a; match a with | ⟨0, _⟩ => rfl | ⟨1, _⟩ => rfl | ⟨2, _⟩ => rfl | ⟨3, _⟩ => rfl),
    shapeCast_apply _ _ _ (ix2 i (⟨u.val % 128, by omega⟩ : Fin 128)) (by
      rw [Shape.rowMajor_val_four, Shape.rowMajor_val_two]
      show i.val * 128 + u.val % 128 = ((0 * 2048 + i.val) * 1 + 0) * 128 + u.val % 128
      omega)]

/-- The word of minus one. -/
theorem ofBits_neg_one : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]
    norm_num
  rw [h, EReal.coe_neg, EReal.coe_one]

/-- The signs at an entry. -/
theorem sgnK_apply (i : Fin 2048) (d : Fin 128) : sgnK (ix2 i d) = if d.val % 2 = 0 then -1 else 1 := by
  unfold sgnK
  rw [broadcastInDim_apply _ _ _ _ (ix2 (0 : Fin 1) d) (by intro a; match a with | ⟨0, _⟩ => rfl | ⟨1, _⟩ => rfl),
    broadcastInDim_apply _ _ _ _ (ix1 d) (by intro a; match a with | ⟨0, _⟩ => rfl),
    shapeCast_apply _ _ _ (ix2 (⟨d.val / 2, by omega⟩ : Fin 64) (⟨d.val % 2, by omega⟩ : Fin 2)) (by
      rw [Shape.rowMajor_val_one, Shape.rowMajor_val_two]
      show d.val / 2 * 2 + d.val % 2 = d.val
      omega),
    broadcastInDim_apply _ _ _ _ (ix2 (0 : Fin 1) (⟨d.val % 2, by omega⟩ : Fin 2)) (by intro a; match a with | ⟨0, _⟩ => rfl | ⟨1, _⟩ => rfl),
    shapeCast_a_1a_apply]
  by_cases hd : d.val % 2 = 0
  · rw [if_pos hd]
    have h : (S2.rowMajor (ix1 (⟨d.val % 2, by omega⟩ : Fin 2))) = (0 : Fin 2) := Fin.ext (by rw [Shape.rowMajor_val_one]; exact hd)
    show Ideal.ofBits .f32 (lit0 (S2.rowMajor (ix1 (⟨d.val % 2, by omega⟩ : Fin 2)))) = -1
    rw [h]
    exact ofBits_neg_one
  · rw [if_neg hd]
    have h : (S2.rowMajor (ix1 (⟨d.val % 2, by omega⟩ : Fin 2))) = (1 : Fin 2) := Fin.ext (by rw [Shape.rowMajor_val_one]; show d.val % 2 = 1; omega)
    show Ideal.ofBits .f32 (lit0 (S2.rowMajor (ix1 (⟨d.val % 2, by omega⟩ : Fin 2)))) = 1
    rw [h]
    exact Ideal.ofBits_one_f32

/-- Flipping the last bit of a column number gives its neighbour. -/
theorem xor_mate : ∀ u : Fin 256, (BitVec.ofNat 32 u.val ^^^ 1#32) = BitVec.ofNat 32 (mate (n := 256) (by decide) u).val := by decide +kernel

/-- The neighbour of the neighbour is the column itself. -/
theorem mate_mate {n : ℕ} (h : n % 2 = 0) (u : Fin n) : mate h (mate h u) = u := Fin.ext (by
  have := u.isLt
  show (if (if u.val % 2 = 0 then u.val + 1 else u.val - 1) % 2 = 0 then (if u.val % 2 = 0 then u.val + 1 else u.val - 1) + 1 else (if u.val % 2 = 0 then u.val + 1 else u.val - 1) - 1) = u.val
  by_cases hu : u.val % 2 = 0
  · rw [if_pos hu, if_neg (by omega)]; omega
  · rw [if_neg hu, if_pos (by omega)]; omega)

/-- The table of neighbours at an entry. -/
theorem swpK_apply (u t : Fin 256) : swpK (ix2 u t) = if u = mate (by decide) t then 1 else 0 := by
  unfold swpK
  rw [truncf_apply, select_apply, broadcastInDim_scalar_apply, broadcastInDim_scalar_apply, constant_apply, constant_apply, Ideal.ofBits_one_f32, Ideal.ofBits_zero_f32]
  show Scalar.select (IntOp.cmpi .eq _ _) _ _ = _
  rw [broadcastInDim_apply _ _ _ _ (ix2 (0 : Fin 1) t) (by intro a; match a with | ⟨0, _⟩ => rfl | ⟨1, _⟩ => rfl),
    broadcastInDim_apply _ _ _ _ (ix1 t) (by intro a; match a with | ⟨0, _⟩ => rfl),
    broadcastInDim_apply _ _ _ _ (ix2 u (0 : Fin 1)) (by intro a; match a with | ⟨0, _⟩ => rfl | ⟨1, _⟩ => rfl),
    broadcastInDim_apply _ _ _ _ (ix1 u) (by intro a; match a with | ⟨0, _⟩ => rfl)]
  have hx : xori (iotaInDim S256 32 0) (broadcastInDim S256 ![] bcast_S_S256 (constantI S_ 32 1#32)) (ix1 u) = BitVec.ofNat 32 (mate (n := 256) (by decide) u).val := by
    refine Eq.trans ?_ (xor_mate u)
    show IntOp.xori _ _ = _
    rw [broadcastInDim_scalar_apply]
    rfl
  rw [hx, iotaInDim_apply, WordCmp.cmpi_eq_eq]
  have ht := t.isLt
  have hm := (mate (n := 256) (by decide) u).isLt
  by_cases h : u = mate (by decide) t
  · have h' : mate (by decide) u = t := by rw [h, mate_mate]
    rw [if_pos h, h', decide_eq_true (by rfl)]
    rfl
  · rw [if_neg h, decide_eq_false]
    · rfl
    · intro hb
      refine h ?_
      have hb' := congrArg BitVec.toNat hb
      rw [BitVec.toNat_ofNat, BitVec.toNat_ofNat] at hb'
      have hv : t = mate (by decide) u := Fin.ext (by
        have e0 : ((ix1 t : S256.Idx) 0).val = t.val := rfl
        rw [e0] at hb'
        omega)
      rw [hv, mate_mate]

/-- The input block at an entry. -/
theorem V_x_apply (i : Fin 2048) (k : Fin 1024) : V m c main_v1 (ix2 i k) = m ((c.tc : Thread nD τ).loc main_arg0) (ix3 (0 : Fin 1) i k) := by
  rw [V_x]
  exact shapeCast_1ab_ab_apply _ _ _ _

/-- The angle at a position and a frequency. -/
def theta (i : Fin 2048) (f : Fin 64) : EReal := angK (ix2 i f)

/-- The tables as the host leaves them. -/
theorem tables : Tables theta (V m c main_v53) (V m c main_v40) (V m c main_v43) where
  swap u t := by rw [V_swap]; exact swpK_apply u t
  cosine i t := by
    rw [V_cos, twoK_apply, dblK_apply]
    rfl
  sine i t := by
    rw [V_sin, twoK_apply, mulf_apply, dblK_apply, sgnK_apply]
    have h : t.val % 128 % 2 = t.val % 2 := by omega
    show Ideal.sin _ * (if t.val % 128 % 2 = 0 then (-1 : EReal) else 1) = _
    rw [h]
    rfl

/-- The matrices of the stack. -/
theorem V_w_apply (j : Fin 4) (k n : Fin 1024) : V m c main_v6 (ix3 j k n)
    = (![m ((c.tc : Thread nD τ).loc main_arg1), m ((c.tc : Thread nD τ).loc main_arg2), m ((c.tc : Thread nD τ).loc main_arg3), m ((c.tc : Thread nD τ).loc main_arg4)] : Fin 4 → FVec Ideal S1024x1024 .bf16) j (ix2 k n) := by
  rw [V_w]
  refine (concatenate_ofFn_unit_apply (t := S4x1024x1024) (s₁ := S1x1024x1024) (0 : Fin 3)
    (fun j : Fin 4 => oneK ((![m ((c.tc : Thread nD τ).loc main_arg1), m ((c.tc : Thread nD τ).loc main_arg2), m ((c.tc : Thread nD τ).loc main_arg3), m ((c.tc : Thread nD τ).loc main_arg4)] : Fin 4 → FVec Ideal S1024x1024 .bf16) j))
    concatenates_S1x1024x1024_S1x1024x1024_S1x1024x1024_S1x1024x1024_S4x1024x1024_d0 rfl rfl (ix3 j k n) j rfl (ix3 (0 : Fin 1) k n) (by
      intro a ha; match a, ha with | ⟨0, _⟩, ha => exact absurd rfl ha | ⟨1, _⟩, _ => rfl | ⟨2, _⟩, _ => rfl)).trans ?_
  unfold oneK
  exact broadcastInDim_apply _ _ _ _ _ (by intro a; match a with | ⟨0, _⟩ => rfl | ⟨1, _⟩ => rfl)

end Cert.KernelIdeal

end
-- ==== Proof.RefMath.lean ====
/- The reference's result at an index: its operations in named stages, each read at coordinates over the extended reals. -/
module

public import proofs.«01_k».proof.Proof.Gen.ReferenceIdeal.Run
public import proofs.«01_k».proof.Proof.Soft
public import Idealize.ShloMosaic.Lib.Pipeline.Value
public import Idealize.ShloMosaic.Lib.ValueLayout
public import Idealize.ShloMosaic.Lib.ValueIdx
public import Idealize.ShloMosaic.Lib.IdealHost
public import Idealize.ShloMosaic.PureOps.Ideal.Laws

@[expose] public section

set_option maxHeartbeats 400000

noncomputable section

namespace Cert.ReferenceIdeal

open Idealize.ShloMosaic Idealize.ShloMosaic.ValueIdx Cert.Attn
open Cert.ReferenceIdeal.Facts₀ Cert.ReferenceIdeal.Facts
open scoped BigOperators

/-- The angles: position times inverse frequency. -/
def angR : FVec Ideal S2048x64 .f32 :=
  mulf (broadcastInDim S2048x64 ![0, 1] bcast_S2048x1_S2048x64_0_1 (sitofp .f32 (broadcastInDim S2048x1 ![0] bcast_S2048_S2048x1_0 (iotaInDim S2048 32 0)))) (broadcastInDim S2048x64 ![0, 1] bcast_S1x64_S2048x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (sitofp .f32 (addi (broadcastInDim S64 ![] bcast_S_S64 (constantI S_ 32 0#32)) (muli (broadcastInDim S64 ![] bcast_S_S64 (constantI S_ 32 2#32)) (iotaInDim S64 32 0)))) (broadcastInDim S64 ![] bcast_S_S64 (constant S_ .f32 0x43000000#32)))))))

/-- A table of 64 columns, each doubled, laid over batches and heads. -/
def tabR (t : FVec Ideal S2048x64 .f32) : FVec Ideal S4x2048x32x128 .f32 :=
  broadcastInDim S4x2048x32x128 ![0, 1, 2, 3] bcast_S1x2048x1x128_S4x2048x32x128_0_1_2_3 (broadcastInDim S1x2048x1x128 ![1, 3] bcast_S2048x128_S1x2048x1x128_1_3 (shapeCast S2048x128 (broadcastInDim S2048x64x2 ![0, 1] bcast_S2048x64_S2048x64x2_0_1 t) shapeCasts_S2048x64x2_S2048x128))

/-- A projection, in heads. -/
def rawR (x : FVec Ideal S4x2048x1024 .bf16) (w : FVec Ideal S1024x4096 .bf16) : FVec Ideal S4x2048x32x128 .f32 :=
  shapeCast S4x2048x32x128 (extf .f32 (truncf .bf16 (Host.dotGeneral dot_S4x2048x1024_S1024x4096_S4x2048x4096_2_0_01_1_n_n none x w : FVec Ideal S4x2048x4096 .f32) bitsLt_bf16_f32) bitsLt_bf16_f32) shapeCasts_S4x2048x4096_S4x2048x32x128

/-- Each pair of columns turned by a quarter: minus the odd one, then the even one. -/
def turnR (r : FVec Ideal S4x2048x32x128 .f32) : FVec Ideal S4x2048x32x128 .f32 :=
  shapeCast S4x2048x32x128 (concatenate S4x2048x32x64x2 4 [⟨S4x2048x32x64x1, (broadcastInDim S4x2048x32x64x1 ![0, 1, 2, 3] bcast_S4x2048x32x64_S4x2048x32x64x1_0_1_2_3 (Host.negf (shapeCast S4x2048x32x64 (extractStridedSlice S4x2048x32x64x1 ![0, 0, 0, 0, 1] (shapeCast S4x2048x32x64x2 r shapeCasts_S4x2048x32x128_S4x2048x32x64x2) slices_S4x2048x32x64x2_S4x2048x32x64x1_0_0_0_0_1) shapeCasts_S4x2048x32x64x1_S4x2048x32x64) : FVec Ideal S4x2048x32x64 .f32))⟩, ⟨S4x2048x32x64x1, (broadcastInDim S4x2048x32x64x1 ![0, 1, 2, 3] bcast_S4x2048x32x64_S4x2048x32x64x1_0_1_2_3 (shapeCast S4x2048x32x64 (extractStridedSlice S4x2048x32x64x1 ![0, 0, 0, 0, 0] (shapeCast S4x2048x32x64x2 r shapeCasts_S4x2048x32x128_S4x2048x32x64x2) slices_S4x2048x32x64x2_S4x2048x32x64x1_0_0_0_0_0) shapeCasts_S4x2048x32x64x1_S4x2048x32x64))⟩] concatenates_S4x2048x32x64x1_S4x2048x32x64x1_S4x2048x32x64x2_d4) shapeCasts_S4x2048x32x64x2_S4x2048x32x128

/-- The rotary embedding. -/
def rotR (r : FVec Ideal S4x2048x32x128 .f32) : FVec Ideal S4x2048x32x128 .f32 :=
  addf (mulf r (tabR (Host.cos angR))) (mulf (turnR r) (tabR (Host.sin angR)))

/-- The scores. -/
def scoR (q k : FVec Ideal S4x2048x32x128 .f32) : FVec Ideal S4x32x2048x2048 .f32 :=
  mulf (Host.dotGeneral dot_S4x2048x32x128_S4x2048x32x128_S4x32x2048x2048_3_3_1_1_02_02 none q k) (broadcastInDim S4x32x2048x2048 ![] bcast_S_S4x32x2048x2048 (constant S_ .f32 0x3DB504F3#32))

/-- A value per row of scores, along the row. -/
def rowR (t : FVec Ideal S4x32x2048 .f32) : FVec Ideal S4x32x2048x2048 .f32 :=
  broadcastInDim S4x32x2048x2048 ![0, 1, 2, 3] bcast_S4x32x2048x1_S4x32x2048x2048_0_1_2_3 (broadcastInDim S4x32x2048x1 ![0, 1, 2] bcast_S4x32x2048_S4x32x2048x1_0_1_2 t)

/-- The row maxima. -/
def maxR (s : FVec Ideal S4x32x2048x2048 .f32) : FVec Ideal S4x32x2048 .f32 :=
  Host.reduce FloatOps.maximumf s (constant S_ .f32 0xFF800000#32) reducesTo_S4x32x2048x2048_S4x32x2048_d3 h_S_

/-- The row sums. -/
def sumR (e : FVec Ideal S4x32x2048x2048 .f32) : FVec Ideal S4x32x2048 .f32 :=
  Host.reduceAdd e (constant S_ .f32 0x00000000#32) reducesTo_S4x32x2048x2048_S4x32x2048_d3 h_S_

/-- The exponentials of the shifted scores. -/
def expR (s : FVec Ideal S4x32x2048x2048 .f32) : FVec Ideal S4x32x2048x2048 .f32 := Host.exp (subf s (rowR (maxR s)))

/-- The heads' results. -/
def ctxR (v : FVec Ideal S4x2048x32x128 .f32) (e : FVec Ideal S4x32x2048x2048 .f32) : FVec Ideal S4x32x128x2048 .f32 :=
  Host.dotGeneral dot_S4x2048x32x128_S4x32x2048x2048_S4x32x128x2048_1_3_3_2_02_01 none v (Host.divf e (rowR (sumR e)))

/-- The output projection. -/
def outR (t : FVec Ideal S4x32x128x2048 .f32) (wo : FVec Ideal S4096x1024 .bf16) : FVec Ideal S4x2048x1024 .f32 :=
  Host.dotGeneral dot_S4x2048x4096_S4096x1024_S4x2048x1024_2_0_01_1_n_n none (shapeCast S4x2048x4096 (transpose S4x2048x32x128 [0, 3, 1, 2] t transposes_S4x32x128x2048_S4x2048x32x128_0_3_1_2) shapeCasts_S4x2048x32x128_S4x2048x4096) (extf .f32 wo bitsLt_bf16_f32)

/-- The reference's result is its stages composed. -/
theorem res_eq (m : (ℓ : Loc nD τ sig) → Buf (Elt Ideal) ℓ) (c : Dev nD) :
    Value.res_main_v87 m c = outR (ctxR (rawR (m ((c.tc : Thread nD τ).loc main_arg0)) (m ((c.tc : Thread nD τ).loc main_arg3)))
      (expR (scoR (rotR (rawR (m ((c.tc : Thread nD τ).loc main_arg0)) (m ((c.tc : Thread nD τ).loc main_arg1))))
        (rotR (rawR (m ((c.tc : Thread nD τ).loc main_arg0)) (m ((c.tc : Thread nD τ).loc main_arg2))))))) (m ((c.tc : Thread nD τ).loc main_arg4)) := by
  unfold Value.res_main_v87
  rfl

/-- Column `d` of head `h`. -/
def colR (h : Fin 32) (d : Fin 128) : Fin 4096 := ⟨128 * h.val + d.val, by omega⟩

/-- A projection at an entry. -/
theorem rawR_apply (x : FVec Ideal S4x2048x1024 .bf16) (w : FVec Ideal S1024x4096 .bf16) (b : Fin 4) (i : Fin 2048) (h : Fin 32) (d : Fin 128) :
    rawR x w (ix4 b i h d) = ∑ k : Fin 1024, x (ix3 b i k) * w (ix2 k (colR h d)) := by
  unfold rawR
  rw [shapeCast_apply _ _ _ (ix3 b i (colR h d)) (by
    rw [Shape.rowMajor_val_three, Shape.rowMajor_val_four]
    show (b.val * 2048 + i.val) * 4096 + (128 * h.val + d.val) = ((b.val * 2048 + i.val) * 32 + h.val) * 128 + d.val
    omega)]
  rw [extf_apply, truncf_apply]
  unfold Host.dotGeneral
  let D := dot_S4x2048x1024_S1024x4096_S4x2048x4096_2_0_01_1_n_n
  have hr : D.contr.rank = 1 := rfl
  have c0 : D.contr.size ⟨0, by rw [hr]; omega⟩ = 1024 := rfl
  rw [Ideal.dotGeneral_apply, ← Equiv.sum_comp (contrEquiv1 D 1024 hr c0).symm]
  refine Finset.sum_congr rfl fun k _ => ?_
  have hk := contrEquiv1_symm_val D 1024 hr c0 k
  congr 2
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-- A score at an entry. -/
theorem scoR_apply (q k : FVec Ideal S4x2048x32x128 .f32) (b : Fin 4) (h : Fin 32) (i j : Fin 2048) :
    scoR q k (ix4 b h i j) = (∑ d : Fin 128, q (ix4 b i h d) * k (ix4 b j h d)) * Ideal.ofBits .f32 0x3DB504F3#32 := by
  unfold scoR
  rw [mulf_apply, broadcastInDim_scalar_apply, constant_apply]
  congr 1
  unfold Host.dotGeneral
  let D := dot_S4x2048x32x128_S4x2048x32x128_S4x32x2048x2048_3_3_1_1_02_02
  have hr : D.contr.rank = 1 := rfl
  have c0 : D.contr.size ⟨0, by rw [hr]; omega⟩ = 128 := rfl
  rw [Ideal.dotGeneral_apply, ← Equiv.sum_comp (contrEquiv1 D 128 hr c0).symm]
  refine Finset.sum_congr rfl fun d _ => ?_
  have hk := contrEquiv1_symm_val D 128 hr c0 d
  congr 2
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

/-- A value along a row, at an entry. -/
theorem rowR_apply (t : FVec Ideal S4x32x2048 .f32) (b : Fin 4) (h : Fin 32) (i j : Fin 2048) :
    rowR t (ix4 b h i j) = t (ix3 b h i) := by
  unfold rowR
  rw [broadcastInDim_apply _ _ _ _ (ix4 b h i (0 : Fin 1)) (by intro a; match a with | ⟨0, _⟩ => rfl | ⟨1, _⟩ => rfl | ⟨2, _⟩ => rfl | ⟨3, _⟩ => rfl),
    broadcastInDim_apply _ _ _ _ (ix3 b h i) (by intro a; match a with | ⟨0, _⟩ => rfl | ⟨1, _⟩ => rfl | ⟨2, _⟩ => rfl)]

/-- A row sum at an entry. -/
theorem sumR_apply (e : FVec Ideal S4x32x2048x2048 .f32) (b : Fin 4) (h : Fin 32) (i : Fin 2048) :
    sumR e (ix3 b h i) = ∑ j : Fin 2048, e (ix4 b h i j) := by
  unfold sumR
  rw [hostReduceAdd_apply, Ideal.hostReduceAdd_single reducesTo_S4x32x2048x2048_S4x32x2048_d3 (by decide)]
  rw [constant_apply]
  have h0 : Ideal.ofBits .f32 0x00000000#32 = 0 := by simp [Ideal.ofBits, Ideal.ieee]
  rw [h0, zero_add]
  refine Finset.sum_congr rfl fun j _ => congrArg e ?_
  funext a; apply Fin.ext
  match a with
  | ⟨0, _⟩ => rfl
  | ⟨1, _⟩ => rfl
  | ⟨2, _⟩ => rfl
  | ⟨3, _⟩ => rfl

/-- A row maximum of real scores is real. -/
theorem maxR_real (s : FVec Ideal S4x32x2048x2048 .f32) (hs : ∀ i, IsReal (s i)) (b : Fin 4) (h : Fin 32) (i : Fin 2048) :
    IsReal (maxR s (ix3 b h i)) := by
  unfold maxR
  rw [Host.reduce_eq_foldl, constant_apply]
  have hb : Ideal.ofBits .f32 0xFF800000#32 = ⊥ := by simp [Ideal.ofBits, Ideal.ieee]
  rw [hb]
  refine isReal_fold_max _ ?_ s hs
  intro hl
  have hm : (ix4 b h i (0 : Fin 2048) : S4x32x2048x2048.Idx) ∈ (((List.finRange S4x32x2048x2048.numel).map S4x32x2048x2048.rowMajor.symm).filter
      fun j => (reducesTo_S4x32x2048x2048_S4x32x2048_d3).drop j = ix3 b h i) := by
    rw [List.mem_filter]
    refine ⟨List.mem_map.mpr ⟨S4x32x2048x2048.rowMajor (ix4 b h i (0 : Fin 2048)), List.mem_finRange _, Equiv.symm_apply_apply _ _⟩, decide_eq_true ?_⟩
    funext a; apply Fin.ext
    match a with
    | ⟨0, _⟩ => rfl
    | ⟨1, _⟩ => rfl
    | ⟨2, _⟩ => rfl
  rw [hl] at hm
  exact absurd hm List.not_mem_nil

/-- A head's result at an entry. -/
theorem ctxR_apply (v : FVec Ideal S4x2048x32x128 .f32) (e : FVec Ideal S4x32x2048x2048 .f32) (b : Fin 4) (h : Fin 32) (d : Fin 128) (i : Fin 2048) :
    ctxR v e (ix4 b h d i) = ∑ j : Fin 2048, v (ix4 b j h d) * Ideal.div (e (ix4 b h i j)) (∑ k : Fin 2048, e (ix4 b h i k)) := by
  unfold ctxR Host.dotGeneral
  let D := dot_S4x2048x32x128_S4x32x2048x2048_S4x32x128x2048_1_3_3_2_02_01
  have hr : D.contr.rank = 1 := rfl
  have c0 : D.contr.size ⟨0, by rw [hr]; omega⟩ = 2048 := rfl
  rw [Ideal.dotGeneral_apply, ← Equiv.sum_comp (contrEquiv1 D 2048 hr c0).symm]
  refine Finset.sum_congr rfl fun j _ => ?_
  have hk := contrEquiv1_symm_val D 2048 hr c0 j
  have el : D.lhsIdx (ix4 b h d i) ((contrEquiv1 D 2048 hr c0).symm j) = ix4 b j h d := by
    funext a; apply Fin.ext
    match a with
    | ⟨0, _⟩ => rfl
    | ⟨1, _⟩ => exact hk
    | ⟨2, _⟩ => rfl
    | ⟨3, _⟩ => rfl
  have er : D.rhsIdx (ix4 b h d i) ((contrEquiv1 D 2048 hr c0).symm j) = ix4 b h i j := by
    funext a; apply Fin.ext
    match a with
    | ⟨0, _⟩ => rfl
    | ⟨1, _⟩ => rfl
    | ⟨2, _⟩ => rfl
    | ⟨3, _⟩ => exact hk
  rw [el, er, hostDivf_apply, rowR_apply, sumR_apply]

/-- The output at an entry. -/
theorem outR_apply (t : FVec Ideal S4x32x128x2048 .f32) (wo : FVec Ideal S4096x1024 .bf16) (b : Fin 4) (i : Fin 2048) (e : Fin 1024) :
    outR t wo (ix3 b i e) = ∑ n : Fin 4096, t (ix4 b (⟨n.val / 128, by omega⟩ : Fin 32) (⟨n.val % 128, by omega⟩ : Fin 128) i) * wo (ix2 n e) := by
  unfold outR Host.dotGeneral
  let D := dot_S4x2048x4096_S4096x1024_S4x2048x1024_2_0_01_1_n_n
  have hr : D.contr.rank = 1 := rfl
  have c0 : D.contr.size ⟨0, by rw [hr]; omega⟩ = 4096 := rfl
  rw [Ideal.dotGeneral_apply, ← Equiv.sum_comp (contrEquiv1 D 4096 hr c0).symm]
  refine Finset.sum_congr rfl fun n _ => ?_
  have hk := contrEquiv1_symm_val D 4096 hr c0 n
  have el : D.lhsIdx (ix3 b i e) ((contrEquiv1 D 4096 hr c0).symm n) = ix3 b i n := by
    funext a; apply Fin.ext
    match a with
    | ⟨0, _⟩ => rfl
    | ⟨1, _⟩ => rfl
    | ⟨2, _⟩ => exact hk
  have er : D.rhsIdx (ix3 b i e) ((contrEquiv1 D 4096 hr c0).symm n) = ix2 n e := by
    funext a; apply Fin.ext
    match a with
    | ⟨0, _⟩ => exact hk
    | ⟨1, _⟩ => rfl
  rw [el, er, extf_apply]
  congr 1
  rw [shapeCast_apply _ _ _ (ix4 b i (⟨n.val / 128, by omega⟩ : Fin 32) (⟨n.val % 128, by omega⟩ : Fin 128)) (by
    rw [Shape.rowMajor_val_three, Shape.rowMajor_val_four]
    show ((b.val * 2048 + i.val) * 32 + n.val / 128) * 128 + n.val % 128 = (b.val * 2048 + i.val) * 4096 + n.val
    omega)]
  exact transpose_apply _ _ _ _ _ (by intro a; match a with | ⟨0, _⟩ => rfl | ⟨1, _⟩ => rfl | ⟨2, _⟩ => rfl | ⟨3, _⟩ => rfl)

/-- A table at an entry. -/
theorem tabR_apply (t : FVec Ideal S2048x64 .f32) (b : Fin 4) (i : Fin 2048) (h : Fin 32) (d : Fin 128) :
    tabR t (ix4 b i h d) = t (ix2 i (⟨d.val / 2, by omega⟩ : Fin 64)) := by
  unfold tabR
  rw [broadcastInDim_apply _ _ _ _ (ix4 (0 : Fin 1) i (0 : Fin 1) d) (by intro a; match a with | ⟨0, _⟩ => rfl | ⟨1, _⟩ => rfl | ⟨2, _⟩ => rfl | ⟨3, _⟩ => rfl),
    broadcastInDim_apply _ _ _ _ (ix2 i d) (by intro a; match a with | ⟨0, _⟩ => rfl | ⟨1, _⟩ => rfl),
    shapeCast_apply _ _ _ (ix3 i (⟨d.val / 2, by omega⟩ : Fin 64) (⟨d.val % 2, by omega⟩ : Fin 2)) (by
      rw [Shape.rowMajor_val_three, Shape.rowMajor_val_two]
      show (i.val * 64 + d.val / 2) * 2 + d.val % 2 = i.val * 128 + d.val
      omega),
    broadcastInDim_apply _ _ _ _ (ix2 i (⟨d.val / 2, by omega⟩ : Fin 64)) (by intro a; match a with | ⟨0, _⟩ => rfl | ⟨1, _⟩ => rfl)]

/-- The turned pairs at an entry. -/
theorem turnR_apply (r : FVec Ideal S4x2048x32x128 .f32) (b : Fin 4) (i : Fin 2048) (h : Fin 32) (d : Fin 128) :
    turnR r (ix4 b i h d) = if d.val % 2 = 0 then -(r (ix4 b i h (mate (by decide) d))) else r (ix4 b i h (mate (by decide) d)) := by
  unfold turnR
  rw [shapeCast_apply _ _ _ (ix5 b i h (⟨d.val / 2, by omega⟩ : Fin 64) (⟨d.val % 2, by omega⟩ : Fin 2)) (by
      rw [Shape.rowMajor_val_five, Shape.rowMajor_val_four]
      show (((b.val * 2048 + i.val) * 32 + h.val) * 64 + d.val / 2) * 2 + d.val % 2 = ((b.val * 2048 + i.val) * 32 + h.val) * 128 + d.val
      omega)]
  have hsl : ∀ o : Fin 2, ∀ (z : S4x2048x32x64x2.Idx) (hz : z = ix5 b i h (⟨d.val / 2, by omega⟩ : Fin 64) o),
      shapeCast S4x2048x32x64x2 r shapeCasts_S4x2048x32x128_S4x2048x32x64x2 z = r (ix4 b i h (⟨2 * (d.val / 2) + o.val, by omega⟩ : Fin 128)) := by
    intro o z hz
    rw [hz]
    exact shapeCast_apply _ _ _ _ (by
      rw [Shape.rowMajor_val_five, Shape.rowMajor_val_four]
      show ((b.val * 2048 + i.val) * 32 + h.val) * 128 + (2 * (d.val / 2) + o.val) = (((b.val * 2048 + i.val) * 32 + h.val) * 64 + d.val / 2) * 2 + o.val
      omega)
  have hc : ∀ z : FVec Ideal S4x2048x32x64x1 .f32, shapeCast S4x2048x32x64 z shapeCasts_S4x2048x32x64x1_S4x2048x32x64 (ix4 b i h (⟨d.val / 2, by omega⟩ : Fin 64))
      = z (ix5 b i h (⟨d.val / 2, by omega⟩ : Fin 64) (0 : Fin 1)) := fun z =>
    shapeCast_apply _ _ _ _ (by
      rw [Shape.rowMajor_val_five, Shape.rowMajor_val_four]
      show (((b.val * 2048 + i.val) * 32 + h.val) * 64 + d.val / 2) * 1 + 0 = ((b.val * 2048 + i.val) * 32 + h.val) * 64 + d.val / 2
      omega)
  have hbc : ∀ z : FVec Ideal S4x2048x32x64 .f32, broadcastInDim S4x2048x32x64x1 ![0, 1, 2, 3] bcast_S4x2048x32x64_S4x2048x32x64x1_0_1_2_3 z
      (ix5 b i h (⟨d.val / 2, by omega⟩ : Fin 64) (0 : Fin 1)) = z (ix4 b i h (⟨d.val / 2, by omega⟩ : Fin 64)) := fun z =>
    broadcastInDim_apply _ _ _ _ _ (by intro a; match a with | ⟨0, _⟩ => rfl | ⟨1, _⟩ => rfl | ⟨2, _⟩ => rfl | ⟨3, _⟩ => rfl)
  by_cases hd : d.val % 2 = 0
  · rw [if_pos hd]
    refine (concatenate_pair_apply_left (t := S4x2048x32x64x2) (s₁ := S4x2048x32x64x1) (s₂ := S4x2048x32x64x1) (4 : Fin 5) _ _ _ _ rfl (ix5 b i h (⟨d.val / 2, by omega⟩ : Fin 64) (0 : Fin 1)) (by
      intro a; match a with | ⟨0, _⟩ => rfl | ⟨1, _⟩ => rfl | ⟨2, _⟩ => rfl | ⟨3, _⟩ => rfl | ⟨4, _⟩ => exact hd.symm)).trans ?_
    rw [hbc]
    refine congrArg (fun y : EReal => -y) ((hc _).trans ?_)
    rw [extractStridedSlice_apply _ _ _ _ (ix5 b i h (⟨d.val / 2, by omega⟩ : Fin 64) (1 : Fin 2)) (by
      intro a; match a with | ⟨0, _⟩ => exact (Nat.zero_add _).symm | ⟨1, _⟩ => exact (Nat.zero_add _).symm | ⟨2, _⟩ => exact (Nat.zero_add _).symm | ⟨3, _⟩ => exact (Nat.zero_add _).symm | ⟨4, _⟩ => rfl)]
    rw [hsl 1 _ rfl]
    refine congrArg r (congrArg (ix4 b i h) (Fin.ext ?_))
    show 2 * (d.val / 2) + 1 = if d.val % 2 = 0 then d.val + 1 else d.val - 1
    rw [if_pos hd]; omega
  · rw [if_neg hd]
    refine (concatenate_pair_apply_right (t := S4x2048x32x64x2) (s₁ := S4x2048x32x64x1) (s₂ := S4x2048x32x64x1) (4 : Fin 5) _ _ _ _ rfl rfl (ix5 b i h (⟨d.val / 2, by omega⟩ : Fin 64) (0 : Fin 1)) (by
      intro a ha; match a, ha with | ⟨0, _⟩, _ => rfl | ⟨1, _⟩, _ => rfl | ⟨2, _⟩, _ => rfl | ⟨3, _⟩, _ => rfl | ⟨4, _⟩, ha => exact absurd rfl ha) (by
      show 0 + 1 = d.val % 2
      omega)).trans ?_
    rw [hbc]
    refine (hc _).trans ?_
    rw [extractStridedSlice_apply _ _ _ _ (ix5 b i h (⟨d.val / 2, by omega⟩ : Fin 64) (0 : Fin 2)) (by
      intro a; match a with | ⟨0, _⟩ => exact (Nat.zero_add _).symm | ⟨1, _⟩ => exact (Nat.zero_add _).symm | ⟨2, _⟩ => exact (Nat.zero_add _).symm | ⟨3, _⟩ => exact (Nat.zero_add _).symm | ⟨4, _⟩ => rfl)]
    rw [hsl 0 _ rfl]
    refine congrArg r (congrArg (ix4 b i h) (Fin.ext ?_))
    show 2 * (d.val / 2) + 0 = if d.val % 2 = 0 then d.val + 1 else d.val - 1
    rw [if_neg hd]; omega

/-- The embedding at an entry. -/
theorem rotR_apply (r : FVec Ideal S4x2048x32x128 .f32) (b : Fin 4) (i : Fin 2048) (h : Fin 32) (d : Fin 128) :
    rotR r (ix4 b i h d) = r (ix4 b i h d) * Ideal.cos (angR (ix2 i (⟨d.val / 2, by omega⟩ : Fin 64)))
      + (if d.val % 2 = 0 then -(r (ix4 b i h (mate (by decide) d))) else r (ix4 b i h (mate (by decide) d))) * Ideal.sin (angR (ix2 i (⟨d.val / 2, by omega⟩ : Fin 64))) := by
  unfold rotR
  rw [addf_apply, mulf_apply, mulf_apply, tabR_apply, tabR_apply, turnR_apply]
  rfl

end Cert.ReferenceIdeal

end
-- ==== Proof.Reals.lean ====
/- Which numbers are real: the angles, the scale of the scores, and the entries the precondition speaks of. -/
module

public import proofs.«01_k».proof.Pre_finite_KernelIdeal
public import proofs.«01_k».proof.Proof.Tables
public import proofs.«01_k».proof.Proof.RefMath

@[expose] public section

set_option maxHeartbeats 400000
set_option maxRecDepth 8192

noncomputable section

namespace Cert.Attn

open Idealize.ShloMosaic Idealize.ShloMosaic.ValueIdx

/-- The base of the frequencies is a real number, as written in the program. -/
theorem ofBits_base : Ideal.ofBits .f32 0x461C4000#32 = ((10000 : ℝ) : EReal) := by
  simp [Ideal.ofBits, Ideal.ieee, -EReal.coe_mul]; norm_num

/-- So is the width of a head. -/
theorem ofBits_width : Ideal.ofBits .f32 0x43000000#32 = ((128 : ℝ) : EReal) := by
  simp [Ideal.ofBits, Ideal.ieee, -EReal.coe_mul]; norm_num

/-- The scale of the scores is a nonnegative real number. -/
theorem scl_real : ∃ r : ℝ, 0 ≤ r ∧ Ideal.ofBits .f32 0x3DB504F3#32 = (r : EReal) := by
  refine ⟨11863283 / 134217728, by norm_num, ?_⟩
  simp [Ideal.ofBits, Ideal.ieee, -EReal.coe_mul]; norm_num

/-- One over a power of the base is a real number. -/
theorem invfreq_real (b : BitVec 32) :
    IsReal (Ideal.div (Ideal.ofBits .f32 0x3F800000#32) (Ideal.pow (Ideal.ofBits .f32 0x461C4000#32) (Ideal.div ((b.toInt : ℝ) : EReal) (Ideal.ofBits .f32 0x43000000#32)))) := by
  rw [ofBits_base, ofBits_width, Ideal.ofBits_one_f32, div_real _ _ (by norm_num)]
  have h : Ideal.pow ((10000 : ℝ) : EReal) ((((b.toInt : ℝ) / 128 : ℝ)) : EReal) = ((Real.rpow 10000 ((b.toInt : ℝ) / 128) : ℝ) : EReal) := rfl
  have h1 : (1 : EReal) = ((1 : ℝ) : EReal) := rfl
  have hp : 0 < Real.rpow 10000 ((b.toInt : ℝ) / 128) := Real.rpow_pos_of_pos (by norm_num) _
  rw [h, h1, div_real _ _ hp]
  exact ⟨_, rfl⟩

/-- The cosine of a real number is real; -/
theorem cos_real {x : EReal} (h : IsReal x) : IsReal (Ideal.cos x) := by
  obtain ⟨r, rfl⟩ := h; exact ⟨Real.cos r, rfl⟩

/-- so is the sine. -/
theorem sin_real {x : EReal} (h : IsReal x) : IsReal (Ideal.sin x) := by
  obtain ⟨r, rfl⟩ := h; exact ⟨Real.sin r, rfl⟩

/-- A number whose absolute value is below infinity is real. -/
theorem real_of_finite (x : Ideal .bf16) (h : FloatOps.cmpf .olt (FloatOps.hostAbsf x) (FloatOps.ofBits (F := Ideal) .bf16 0x7F80#16) = 1#1) : IsReal x := by
  have htop : Ideal.ofBits .bf16 0x7F80#16 = ⊤ := by simp [Ideal.ofBits, Ideal.ieee]
  have h' : Ideal.cmp .olt (max (x : EReal) (-(x : EReal))) (Ideal.ofBits .bf16 0x7F80#16) = 1#1 := h
  rw [htop] at h'
  have hlt : max (x : EReal) (-(x : EReal)) < ⊤ := by
    by_contra hn
    have : Ideal.cmp .olt (max (x : EReal) (-(x : EReal))) ⊤ = 0#1 := by
      show BitVec.ofBool (decide _) = 0#1
      rw [decide_eq_false hn]; rfl
    rw [this] at h'
    exact absurd h' (by decide)
  have h1 : (x : EReal) ≠ ⊤ := (lt_of_le_of_lt (le_max_left _ _) hlt).ne
  have h2 : (x : EReal) ≠ ⊥ := by
    intro hb
    have := lt_of_le_of_lt (le_max_right (x : EReal) (-(x : EReal))) hlt
    rw [hb, EReal.neg_bot] at this
    exact lt_irrefl _ this
  exact ⟨EReal.toReal x, (EReal.coe_toReal h1 h2).symm⟩

end Cert.Attn

namespace Cert.KernelIdeal

open Idealize.ShloMosaic Idealize.ShloMosaic.ValueIdx Cert.Attn

/-- Every angle is a real number. -/
theorem theta_real (i : Fin 2048) (f : Fin 64) : IsReal (theta i f) := by
  unfold theta angK
  rw [mulf_apply]
  refine IsReal.mul ?_ ?_
  · rw [broadcastInDim_apply _ _ _ _ (ix2 i (0 : Fin 1)) (by intro a; match a with | ⟨0, _⟩ => rfl | ⟨1, _⟩ => rfl)]
    exact ⟨_, rfl⟩
  · rw [broadcastInDim_apply _ _ _ _ (ix2 (0 : Fin 1) f) (by intro a; match a with | ⟨0, _⟩ => rfl | ⟨1, _⟩ => rfl),
      broadcastInDim_apply _ _ _ _ (ix1 f) (by intro a; match a with | ⟨0, _⟩ => rfl), hostDivf_apply]
    exact invfreq_real _

/-- The reference's angles are the kernel's. -/
theorem angR_eq : Cert.ReferenceIdeal.angR = angK := rfl

end Cert.KernelIdeal

end
-- ==== Proof.Match.lean ====
/- A device's part of the work against the reference's heads: with the device's input a batch of the reference's and the weights it
   holds a block of the reference's columns, each stage of the kernel's mathematics is the reference's at the matching head. -/
module

public import proofs.«01_k».proof.Proof.Reals

@[expose] public section

set_option maxHeartbeats 400000
set_option maxRecDepth 8192

noncomputable section

namespace Cert.KernelIdeal

open Idealize.ShloMosaic Idealize.ShloMosaic.ValueIdx Cert.Attn
open Cert.ReferenceIdeal (rawR rotR scoR maxR rowR expR ctxR outR colR)
open scoped BigOperators

/-- The reference's head of column `t` of pair `p` on block `s`. -/
def headOf (s p : Fin 4) (t : Fin 256) : Fin 32 := ⟨8 * s.val + 2 * p.val + t.val / 128, by omega⟩

/-- The column of column `t` of a pair within its head. -/
def inner (t : Fin 256) : Fin 128 := ⟨t.val % 128, by omega⟩

/-- The reference's column of column `n` of block `s`. -/
def wide (s : Fin 4) (n : Fin 1024) : Fin 4096 := ⟨1024 * s.val + n.val, by omega⟩

/-- The column of the reference that belongs to a column of a pair. -/
theorem colR_head (s p : Fin 4) (t : Fin 256) : colR (headOf s p t) (inner t) = wide s (⟨256 * p.val + t.val, by omega⟩ : Fin 1024) := Fin.ext (by
  show 128 * (8 * s.val + 2 * p.val + t.val / 128) + t.val % 128 = 1024 * s.val + (256 * p.val + t.val)
  omega)

/-- A neighbour is in the same head, -/
theorem headOf_mate (s p : Fin 4) (t : Fin 256) : headOf s p (mate (by decide) t) = headOf s p t := Fin.ext (by
  show 8 * s.val + 2 * p.val + (if t.val % 2 = 0 then t.val + 1 else t.val - 1) / 128 = 8 * s.val + 2 * p.val + t.val / 128
  split <;> omega)

/-- and is the neighbour within it. -/
theorem inner_mate (t : Fin 256) : inner (mate (by decide) t) = mate (by decide) (inner t) := Fin.ext (by
  show (if t.val % 2 = 0 then t.val + 1 else t.val - 1) % 128 = if t.val % 128 % 2 = 0 then t.val % 128 + 1 else t.val % 128 - 1
  split <;> split <;> omega)

/-- A column of the same head is in that head, -/
theorem headOf_inHead (s p : Fin 4) (t : Fin 256) (d : Fin 128) : headOf s p (inHead t d) = headOf s p t := Fin.ext (by
  show 8 * s.val + 2 * p.val + (128 * (t.val / 128) + d.val) / 128 = 8 * s.val + 2 * p.val + t.val / 128
  omega)

/-- at its place. -/
theorem inner_inHead (t : Fin 256) (d : Fin 128) : inner (inHead t d) = d := Fin.ext (by
  show (128 * (t.val / 128) + d.val) % 128 = d.val
  omega)

/-- What a device holds, against the reference's arrays: batch `b` of the input and block `s` of the weights. -/
structure Holds (x' : FVec Ideal Cert.ReferenceIdeal.S4x2048x1024 .bf16) (wq wk wv : FVec Ideal Cert.ReferenceIdeal.S1024x4096 .bf16)
    (wo : FVec Ideal Cert.ReferenceIdeal.S4096x1024 .bf16) (b s : Fin 4) (x : FVec Ideal S2048x1024 .bf16) (W : Vec Ideal S4x1024x1024 .bf16) : Prop where
  inp : ∀ i k, x (ix2 i k) = x' (ix3 b i k)
  q : ∀ k n, W (ix3 (0 : Fin 4) k n) = wq (ix2 k (wide s n))
  k : ∀ k n, W (ix3 (1 : Fin 4) k n) = wk (ix2 k (wide s n))
  v : ∀ k n, W (ix3 (2 : Fin 4) k n) = wv (ix2 k (wide s n))
  o : ∀ n e, W (ix3 (3 : Fin 4) n e) = wo (ix2 (wide s n) e)

/-- The kernel's projection is the reference's. -/
theorem projK_eq (x' : FVec Ideal Cert.ReferenceIdeal.S4x2048x1024 .bf16) (w : FVec Ideal Cert.ReferenceIdeal.S1024x4096 .bf16) (b s j p : Fin 4)
    (x : FVec Ideal S2048x1024 .bf16) (W : Vec Ideal S4x1024x1024 .bf16) (hx : ∀ i k, x (ix2 i k) = x' (ix3 b i k))
    (hw : ∀ k n, W (ix3 j k n) = w (ix2 k (wide s n))) (i : Fin 2048) (t : Fin 256) :
    projK x W j p i t = rawR x' w (ix4 b i (headOf s p t) (inner t)) := by
  rw [Cert.ReferenceIdeal.rawR_apply, colR_head]
  unfold projK
  exact Finset.sum_congr rfl fun k _ => by rw [hx, hw]

/-- The rotary embedding of the kernel is the reference's. -/
theorem rotK_eq (r : FVec Ideal Cert.ReferenceIdeal.S4x2048x32x128 .f32) (b s p : Fin 4) (f : Fin 2048 → Fin 256 → EReal)
    (hf : ∀ i t, f i t = r (ix4 b i (headOf s p t) (inner t))) (i : Fin 2048) (t : Fin 256) :
    rotK theta f i t = rotR r (ix4 b i (headOf s p t) (inner t)) := by
  rw [Cert.ReferenceIdeal.rotR_apply, angR_eq]
  unfold rotK
  rw [hf, hf, headOf_mate, inner_mate]
  have ha : angK (ix2 i (⟨(inner t).val / 2, by omega⟩ : Fin 64)) = theta i (freq t) := rfl
  have hp : (inner t).val % 2 = t.val % 2 := by show t.val % 128 % 2 = t.val % 2; omega
  rw [ha, hp]
  by_cases h : t.val % 2 = 0
  · rw [if_pos h, if_pos h, mul_neg, mul_one, mul_neg, neg_mul]
  · rw [if_neg h, if_neg h, mul_one]

variable {x' : FVec Ideal Cert.ReferenceIdeal.S4x2048x1024 .bf16} {wq wk wv : FVec Ideal Cert.ReferenceIdeal.S1024x4096 .bf16}
  {wo : FVec Ideal Cert.ReferenceIdeal.S4096x1024 .bf16} {b s : Fin 4} {x : FVec Ideal S2048x1024 .bf16} {W : Vec Ideal S4x1024x1024 .bf16}

/-- A projection of real numbers is real. -/
theorem rawR_real (hx : ∀ z, IsReal (x' z)) (w : FVec Ideal Cert.ReferenceIdeal.S1024x4096 .bf16) (hw : ∀ z, IsReal (w z)) (z : Cert.ReferenceIdeal.S4x2048x32x128.Idx) :
    IsReal (rawR x' w z) := by
  obtain ⟨b, i, h, d, rfl⟩ : ∃ b i h d, z = ix4 b i h d := ⟨_, _, _, _, eq_ix4 z⟩
  rw [Cert.ReferenceIdeal.rawR_apply]
  exact IsReal.sum _ _ fun k => (hx _).mul (hw _)

/-- The embedding of real numbers is real; -/
theorem rotR_real (r : FVec Ideal Cert.ReferenceIdeal.S4x2048x32x128 .f32) (hr : ∀ z, IsReal (r z)) (z : Cert.ReferenceIdeal.S4x2048x32x128.Idx) : IsReal (rotR r z) := by
  obtain ⟨b, i, h, d, rfl⟩ : ∃ b i h d, z = ix4 b i h d := ⟨_, _, _, _, eq_ix4 z⟩
  rw [Cert.ReferenceIdeal.rotR_apply, angR_eq]
  refine ((hr _).mul (cos_real (theta_real i _))).add (IsReal.mul ?_ (sin_real (theta_real i _)))
  split
  · exact (hr _).neg
  · exact hr _

/-- so are the scores. -/
theorem scoR_real (q k : FVec Ideal Cert.ReferenceIdeal.S4x2048x32x128 .f32) (hq : ∀ z, IsReal (q z)) (hk : ∀ z, IsReal (k z)) (z : Cert.ReferenceIdeal.S4x32x2048x2048.Idx) :
    IsReal (scoR q k z) := by
  obtain ⟨b, h, i, j, rfl⟩ : ∃ b h i j, z = ix4 b h i j := ⟨_, _, _, _, eq_ix4 z⟩
  rw [Cert.ReferenceIdeal.scoR_apply]
  obtain ⟨c, _, hc⟩ := scl_real
  exact (IsReal.sum _ _ fun d => (hq _).mul (hk _)).mul ⟨c, hc⟩

/-- The kernel's scores, scaled in the query, are the reference's, scaled after the product. -/
theorem score_eq (q k : FVec Ideal Cert.ReferenceIdeal.S4x2048x32x128 .f32) (b s p : Fin 4) (f g : Fin 2048 → Fin 256 → EReal)
    (hf : ∀ i t, f i t = q (ix4 b i (headOf s p t) (inner t))) (hg : ∀ i t, g i t = k (ix4 b i (headOf s p t) (inner t)))
    (i j : Fin 2048) (t : Fin 256) :
    ∑ d : Fin 128, f i (inHead t d) * scl * g j (inHead t d) = scoR q k (ix4 b (headOf s p t) i j) := by
  rw [Cert.ReferenceIdeal.scoR_apply]
  obtain ⟨c, hc, hs⟩ := scl_real
  unfold scl
  rw [hs, sum_mul_real _ _ _ hc]
  refine Finset.sum_congr rfl fun d _ => ?_
  rw [hf, hg, headOf_inHead, inner_inHead, mul_right_comm]

/-- An exponential of a shifted score, at an entry. -/
theorem expR_apply (a : FVec Ideal Cert.ReferenceIdeal.S4x32x2048x2048 .f32) (b : Fin 4) (h : Fin 32) (i j : Fin 2048) :
    expR a (ix4 b h i j) = Ideal.exp (a (ix4 b h i j) - maxR a (ix3 b h i)) := by
  rw [← Cert.ReferenceIdeal.rowR_apply (maxR a) b h i j]
  rfl

/-- The kernel's attention of one column is the reference's. -/
theorem mix_eq (q k v : FVec Ideal Cert.ReferenceIdeal.S4x2048x32x128 .f32) (hq : ∀ z, IsReal (q z)) (hk : ∀ z, IsReal (k z)) (b s p : Fin 4)
    (f g u : Fin 2048 → Fin 256 → EReal)
    (hf : ∀ i t, f i t = q (ix4 b i (headOf s p t) (inner t))) (hg : ∀ i t, g i t = k (ix4 b i (headOf s p t) (inner t)))
    (hu : ∀ i t, u i t = v (ix4 b i (headOf s p t) (inner t))) (i : Fin 2048) (t : Fin 256) :
    mix (fun t => f i t * scl) g u t = ctxR v (expR (scoR q k)) (ix4 b (headOf s p t) (inner t) i) := by
  rw [Cert.ReferenceIdeal.ctxR_apply]
  unfold mix
  simp only [score_eq q k b s p f g hf hg, hu, expR_apply]
  exact soft_shift (by decide) (fun j => scoR q k (ix4 b (headOf s p t) i j)) _ (fun j => v (ix4 b j (headOf s p t) (inner t)))
    (fun j => scoR_real q k hq hk _) (Cert.ReferenceIdeal.maxR_real _ (scoR_real q k hq hk) _ _ _)

/-- What a pair of heads adds is the reference's sum over the pair's columns. -/
theorem addK_eq (H : Holds x' wq wk wv wo b s x W) (hx : ∀ z, IsReal (x' z)) (hq : ∀ z, IsReal (wq z)) (hk : ∀ z, IsReal (wk z))
    (p : Fin 4) (i : Fin 2048) (e : Fin 1024) :
    addK theta x W p i e = ∑ t : Fin 256, ctxR (rawR x' wv) (expR (scoR (rotR (rawR x' wq)) (rotR (rawR x' wk))))
      (ix4 b (headOf s p t) (inner t) i) * wo (ix2 (wide s (⟨256 * p.val + t.val, by omega⟩ : Fin 1024)) e) := by
  unfold addK
  refine Finset.sum_congr rfl fun t _ => ?_
  rw [H.o, mix_eq (rotR (rawR x' wq)) (rotR (rawR x' wk)) (rawR x' wv) (rotR_real _ (rawR_real hx wq hq)) (rotR_real _ (rawR_real hx wk hk)) b s p
    (rotK theta (projK x W 0 p)) (rotK theta (projK x W 1 p)) (projK x W 2 p)
    (rotK_eq _ b s p _ (projK_eq x' wq b s 0 p x W H.inp H.q)) (rotK_eq _ b s p _ (projK_eq x' wk b s 1 p x W H.inp H.k))
    (projK_eq x' wv b s 2 p x W H.inp H.v)]

/-- The reference's output at an entry, by blocks of the weights, pairs of heads and columns. -/
theorem outR_blocks (y : FVec Ideal Cert.ReferenceIdeal.S4x32x128x2048 .f32) (wo : FVec Ideal Cert.ReferenceIdeal.S4096x1024 .bf16) (b : Fin 4) (i : Fin 2048) (e : Fin 1024) :
    outR y wo (ix3 b i e) = ∑ s : Fin 4, ∑ p : Fin 4, ∑ t : Fin 256, y (ix4 b (headOf s p t) (inner t) i) * wo (ix2 (wide s (⟨256 * p.val + t.val, by omega⟩ : Fin 1024)) e) := by
  rw [Cert.ReferenceIdeal.outR_apply, sum_blocks]
  refine Finset.sum_congr rfl fun s _ => Finset.sum_congr rfl fun p _ => Finset.sum_congr rfl fun t _ => ?_
  have h1 : (⟨(1024 * s.val + 256 * p.val + t.val) / 128, by omega⟩ : Fin 32) = headOf s p t := Fin.ext (by
    show (1024 * s.val + 256 * p.val + t.val) / 128 = 8 * s.val + 2 * p.val + t.val / 128
    omega)
  have h2 : (⟨(1024 * s.val + 256 * p.val + t.val) % 128, by omega⟩ : Fin 128) = inner t := Fin.ext (by
    show (1024 * s.val + 256 * p.val + t.val) % 128 = t.val % 128
    omega)
  have h3 : (⟨1024 * s.val + 256 * p.val + t.val, by omega⟩ : Fin 4096) = wide s (⟨256 * p.val + t.val, by omega⟩ : Fin 1024) := Fin.ext (Nat.add_assoc _ _ _)
  rw [← h1, ← h2, ← h3]

/-- One block of weights' part of the output, in the reference's terms. -/
theorem hop_eq (H : Holds x' wq wk wv wo b s x W) (hx : ∀ z, IsReal (x' z)) (hq : ∀ z, IsReal (wq z)) (hk : ∀ z, IsReal (wk z))
    (i : Fin 2048) (e : Fin 1024) :
    ∑ p : Fin 4, addK theta x W p i e = ∑ p : Fin 4, ∑ t : Fin 256, ctxR (rawR x' wv) (expR (scoR (rotR (rawR x' wq)) (rotR (rawR x' wk))))
      (ix4 b (headOf s p t) (inner t) i) * wo (ix2 (wide s (⟨256 * p.val + t.val, by omega⟩ : Fin 1024)) e) :=
  Finset.sum_congr rfl fun p _ => addK_eq H hx hq hk p i e

/-- A sum over the four devices in the order the ring brings their blocks. -/
theorem sum_ring (f : Fin 4 → EReal) (c : Fin 4) : f c + f (c + 3) + f (c + 3 + 3) + f (c + 3 + 3 + 3) = ∑ s, f s := by
  rw [Fin.sum_univ_four]
  have h : ∀ c : Fin 4, (c = 0 ∧ c + 3 = 3 ∧ c + 3 + 3 = 2 ∧ c + 3 + 3 + 3 = 1) ∨ (c = 1 ∧ c + 3 = 0 ∧ c + 3 + 3 = 3 ∧ c + 3 + 3 + 3 = 2)
      ∨ (c = 2 ∧ c + 3 = 1 ∧ c + 3 + 3 = 0 ∧ c + 3 + 3 + 3 = 3) ∨ (c = 3 ∧ c + 3 = 2 ∧ c + 3 + 3 = 1 ∧ c + 3 + 3 + 3 = 0) := by decide
  rcases h c with ⟨h0, h1, h2, h3⟩ | ⟨h0, h1, h2, h3⟩ | ⟨h0, h1, h2, h3⟩ | ⟨h0, h1, h2, h3⟩ <;> rw [h3, h2, h1, h0] <;> abel

end Cert.KernelIdeal

end
-- ==== Proof.Equation.lean ====
/- The equation of the results: what the kernel leaves on a device is that device's block of the reference's result. -/
module

public import proofs.«01_k».proof.Proof.Match
public import proofs.«01_k».proof.Proof.Finish
public import Idealize.ShloMosaic.Lib.Layout

@[expose] public section

set_option maxHeartbeats 400000
set_option maxRecDepth 8192

noncomputable section

namespace Cert.KernelIdeal

open Idealize.ShloMosaic Idealize.ShloMosaic.TcCoe Idealize.ShloMosaic.ValueIdx Cert.Attn
open Cert.KernelIdeal.Gen (V)
open Cert.ReferenceIdeal (rawR rotR scoR expR ctxR outR)
open scoped BigOperators

/-- The left neighbour is three places on. -/
theorem prv_eq (c : Fin 4) : prv c = c + 3 := by revert c; decide

variable (m : (ℓ : Loc nD τ sig) → Buf (Elt Ideal) ℓ)
  (x' : FVec Ideal Cert.ReferenceIdeal.S4x2048x1024 .bf16) (wq wk wv : FVec Ideal Cert.ReferenceIdeal.S1024x4096 .bf16)
  (wo : FVec Ideal Cert.ReferenceIdeal.S4096x1024 .bf16)

/-- Every device's arguments are its blocks of the reference's. -/
def Blocks : Prop := ∀ c : Fin 4,
  m ((Dev.tc c : Thread nD τ).loc main_arg0) = Layout.block ⟨3, ![1, 2048, 1024]⟩ ⟨3, ![4, 2048, 1024]⟩ 0 4 c x'
  ∧ m ((Dev.tc c : Thread nD τ).loc main_arg1) = Layout.block ⟨2, ![1024, 1024]⟩ ⟨2, ![1024, 4096]⟩ 1 4 c wq
  ∧ m ((Dev.tc c : Thread nD τ).loc main_arg2) = Layout.block ⟨2, ![1024, 1024]⟩ ⟨2, ![1024, 4096]⟩ 1 4 c wk
  ∧ m ((Dev.tc c : Thread nD τ).loc main_arg3) = Layout.block ⟨2, ![1024, 1024]⟩ ⟨2, ![1024, 4096]⟩ 1 4 c wv
  ∧ m ((Dev.tc c : Thread nD τ).loc main_arg4) = Layout.block ⟨2, ![1024, 1024]⟩ ⟨2, ![4096, 1024]⟩ 0 4 c wo

/-- An entry of a block of the input, -/
theorem block_x (v : FVec Ideal ⟨3, ![4, 2048, 1024]⟩ .bf16) (c : Fin 4) (i : Fin 2048) (k : Fin 1024) :
    Layout.block ⟨3, ![1, 2048, 1024]⟩ ⟨3, ![4, 2048, 1024]⟩ 0 4 c v (by decide) (ValueIdx.ix3 (0 : Fin 1) i k) = v (ValueIdx.ix3 c i k) := by
  rw [Layout.block_apply]
  refine congrArg v (funext fun a => Fin.ext ?_)
  match a with
  | ⟨0, _⟩ => show c.val * 1 + 0 = c.val; omega
  | ⟨1, _⟩ => rfl
  | ⟨2, _⟩ => rfl

/-- of the result, -/
theorem block_o (v : FVec Ideal ⟨3, ![4, 2048, 1024]⟩ .f32) (c : Fin 4) (i : Fin 2048) (k : Fin 1024) :
    Layout.block ⟨3, ![1, 2048, 1024]⟩ ⟨3, ![4, 2048, 1024]⟩ 0 4 c v (by decide) (ValueIdx.ix3 (0 : Fin 1) i k) = v (ValueIdx.ix3 c i k) := by
  rw [Layout.block_apply]
  refine congrArg v (funext fun a => Fin.ext ?_)
  match a with
  | ⟨0, _⟩ => show c.val * 1 + 0 = c.val; omega
  | ⟨1, _⟩ => rfl
  | ⟨2, _⟩ => rfl

/-- of a matrix cut by columns, -/
theorem block_w (v : FVec Ideal ⟨2, ![1024, 4096]⟩ .bf16) (c : Fin 4) (k n : Fin 1024) :
    Layout.block ⟨2, ![1024, 1024]⟩ ⟨2, ![1024, 4096]⟩ 1 4 c v (by decide) (ValueIdx.ix2 k n) = v (ValueIdx.ix2 k (wide c n)) := by
  rw [Layout.block_apply]
  refine congrArg v (funext fun a => Fin.ext ?_)
  match a with
  | ⟨0, _⟩ => rfl
  | ⟨1, _⟩ => show c.val * 1024 + n.val = 1024 * c.val + n.val; omega

/-- and of the matrix cut by rows. -/
theorem block_wo (v : FVec Ideal ⟨2, ![4096, 1024]⟩ .bf16) (c : Fin 4) (n e : Fin 1024) :
    Layout.block ⟨2, ![1024, 1024]⟩ ⟨2, ![4096, 1024]⟩ 0 4 c v (by decide) (ValueIdx.ix2 n e) = v (ValueIdx.ix2 (wide c n) e) := by
  rw [Layout.block_apply]
  refine congrArg v (funext fun a => Fin.ext ?_)
  match a with
  | ⟨0, _⟩ => show c.val * 1024 + n.val = 1024 * c.val + n.val; omega
  | ⟨1, _⟩ => rfl

variable {m x' wq wk wv wo}

/-- What a device holds on a hop: its own input and the weights of the device they came from. -/
theorem holds_blocks (B : Blocks m x' wq wk wv wo) (c s : Fin 4) : Holds x' wq wk wv wo c s (V m c main_v1) (V m s main_v6) where
  inp i k := by rw [V_x_apply, (B c).1, block_x]
  q k n := by
    rw [V_w_apply]
    show m ((Dev.tc s : Thread nD τ).loc main_arg1) (ValueIdx.ix2 k n) = _
    rw [(B s).2.1, block_w]
  k k n := by
    rw [V_w_apply]
    show m ((Dev.tc s : Thread nD τ).loc main_arg2) (ValueIdx.ix2 k n) = _
    rw [(B s).2.2.1, block_w]
  v k n := by
    rw [V_w_apply]
    show m ((Dev.tc s : Thread nD τ).loc main_arg3) (ValueIdx.ix2 k n) = _
    rw [(B s).2.2.2.1, block_w]
  o n e := by
    rw [V_w_apply]
    show m ((Dev.tc s : Thread nD τ).loc main_arg4) (ValueIdx.ix2 n e) = _
    rw [(B s).2.2.2.2, block_wo]

/-- **The result of a device is its block of the reference's result**, of real inputs, queries' and keys' weights. -/
theorem result_eq (B : Blocks m x' wq wk wv wo) (hx : ∀ z, IsReal (x' z)) (hq : ∀ z, IsReal (wq z)) (hk : ∀ z, IsReal (wk z)) (c : Fin 4) :
    result (found m) c = Layout.block ⟨3, ![1, 2048, 1024]⟩ ⟨3, ![4, 2048, 1024]⟩ 0 4 c
      (outR (ctxR (rawR x' wv) (expR (scoR (rotR (rawR x' wq)) (rotR (rawR x' wk))))) wo) := by
  funext z
  obtain ⟨u, i, e, rfl⟩ : ∃ u i e, z = ValueIdx.ix3 u i e := ⟨_, _, _, ValueIdx.eq_ix3 z⟩
  obtain rfl : u = (0 : Fin 1) := Subsingleton.elim _ _
  rw [block_o, outR_blocks]
  unfold result wts
  rw [found_at, found_at, found_at, found_at, found_at, found_at, found_at, found_at, outV_apply (tables m c),
    hop_eq (holds_blocks B c c) hx hq hk, hop_eq (holds_blocks B c (prv c)) hx hq hk, hop_eq (holds_blocks B c (prv (prv c))) hx hq hk, hop_eq (holds_blocks B c (prv (prv (prv c)))) hx hq hk,
    prv_eq c, prv_eq (c + 3), prv_eq (c + 3 + 3)]
  exact sum_ring (fun s => ∑ p : Fin 4, ∑ t : Fin 256, ctxR (rawR x' wv) (expR (scoR (rotR (rawR x' wq)) (rotR (rawR x' wk))))
      (ValueIdx.ix4 c (headOf s p t) (inner t) i) * wo (ValueIdx.ix2 (wide s (⟨256 * p.val + t.val, by omega⟩ : Fin 1024)) e)) c

/-- Of inputs whose blocks are all real, every entry is. -/
theorem real_x (v : FVec Ideal ⟨3, ![4, 2048, 1024]⟩ .bf16)
    (h : ∀ (c : Fin 4) z, IsReal (Layout.block ⟨3, ![1, 2048, 1024]⟩ ⟨3, ![4, 2048, 1024]⟩ 0 4 c v (by decide) z)) (z : (⟨3, ![4, 2048, 1024]⟩ : Shape).Idx) : IsReal (v z) := by
  obtain ⟨c, i, k, rfl⟩ : ∃ c i k, z = ValueIdx.ix3 c i k := ⟨_, _, _, ValueIdx.eq_ix3 z⟩
  have := h c (ValueIdx.ix3 (0 : Fin 1) i k)
  rwa [block_x] at this

/-- The same of a matrix cut by columns. -/
theorem real_w (v : FVec Ideal ⟨2, ![1024, 4096]⟩ .bf16)
    (h : ∀ (c : Fin 4) z, IsReal (Layout.block ⟨2, ![1024, 1024]⟩ ⟨2, ![1024, 4096]⟩ 1 4 c v (by decide) z)) (z : (⟨2, ![1024, 4096]⟩ : Shape).Idx) : IsReal (v z) := by
  obtain ⟨k, n, rfl⟩ : ∃ k n, z = ValueIdx.ix2 k n := ⟨_, _, ValueIdx.eq_ix2 z⟩
  have := h (⟨n.val / 1024, by omega⟩ : Fin 4) (ValueIdx.ix2 k (⟨n.val % 1024, by omega⟩ : Fin 1024))
  rw [block_w] at this
  have e : wide (⟨n.val / 1024, by omega⟩ : Fin 4) (⟨n.val % 1024, by omega⟩ : Fin 1024) = n := Fin.ext (by
    show 1024 * (n.val / 1024) + n.val % 1024 = n.val
    omega)
  rwa [e] at this

/-- The finiteness test of an input block, read at an entry. -/
theorem real_of_test_x [Cert.Pre_finite_KernelIdeal.Facts] (a : FVec Ideal Cert.Pre_finite_KernelIdeal.S1x2048x1024 .bf16) (w1 w2 w3 w4 : FVec Ideal Cert.Pre_finite_KernelIdeal.S1024x1024 .bf16)
    (h : (Cert.Pre_finite_KernelIdeal.fn (F := Ideal) a w1 w2 w3 w4).1 = fun _ => 1#1) (z : Cert.Pre_finite_KernelIdeal.S1x2048x1024.Idx) : IsReal (a z) :=
  real_of_finite _ (congrFun h z)

/-- The test of the queries' weights, read at an entry. -/
theorem real_of_test_q [Cert.Pre_finite_KernelIdeal.Facts] (a : FVec Ideal Cert.Pre_finite_KernelIdeal.S1x2048x1024 .bf16) (w1 w2 w3 w4 : FVec Ideal Cert.Pre_finite_KernelIdeal.S1024x1024 .bf16)
    (h : (Cert.Pre_finite_KernelIdeal.fn (F := Ideal) a w1 w2 w3 w4).2.1 = fun _ => 1#1) (z : Cert.Pre_finite_KernelIdeal.S1024x1024.Idx) : IsReal (w1 z) :=
  real_of_finite _ (congrFun h z)

/-- The test of the keys' weights, read at an entry. -/
theorem real_of_test_k [Cert.Pre_finite_KernelIdeal.Facts] (a : FVec Ideal Cert.Pre_finite_KernelIdeal.S1x2048x1024 .bf16) (w1 w2 w3 w4 : FVec Ideal Cert.Pre_finite_KernelIdeal.S1024x1024 .bf16)
    (h : (Cert.Pre_finite_KernelIdeal.fn (F := Ideal) a w1 w2 w3 w4).2.2 = fun _ => 1#1) (z : Cert.Pre_finite_KernelIdeal.S1024x1024.Idx) : IsReal (w2 z) :=
  real_of_finite _ (congrFun h z)

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finish
public import proofs.«01_k».proof.Proof.Equation
public import proofs.«01_k».proof.Proof.Bits.Finish
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The rounded program runs, leaves its arguments and all counters at zero. -/
theorem kernel_frame : Cert.quiescent_Kernel (hKernel := Cert.Kernel.Gen.facts) := fun m ρ _ =>
  (θ_run Cert.Kernel.defs _ _).mono (fun _ h => ⟨fun c => (h.1 c).2, h.2⟩) (Cert.Kernel.run_main (F := Bits) m ρ)

/-- The program over the reals runs, leaves its arguments and all counters at zero. -/
theorem ideal_frame : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.run_main (F := Ideal) m ρ)

/-- The reference runs and leaves its arguments; it has no counters. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The operations of the precondition, on the kernel's arguments, fit their shapes. -/
theorem pre_facts : Cert.Pre_finite_KernelIdeal.Facts := ⟨by decide, by decide⟩

/-- The same on the reference's arguments. -/
theorem pre_facts_ref : Cert.Pre_finite_ReferenceIdeal.Facts := ⟨by decide, by decide⟩

/-- The kernel over the reals runs under the precondition too. -/
theorem ideal_frame_pre : Cert.quiescent_KernelIdeal_pre_finite_KernelIdeal (hKernelIdeal := Cert.KernelIdeal.Gen.facts) (hPre_finite_KernelIdeal := pre_facts) :=
  fun m ρ _ => ideal_frame m ρ trivial

/-- The reference runs under the precondition too. -/
theorem reference_frame_pre : Cert.quiescent_ReferenceIdeal_pre_finite_ReferenceIdeal (hReferenceIdeal := Cert.ReferenceIdeal.Gen.facts)
    (hPre_finite_ReferenceIdeal := pre_facts_ref) :=
  fun m ρ _ => reference_frame m ρ trivial

/-- **The equation**: of finite inputs, queries' weights and keys' weights, every device's result is its block of the reference's result. -/
theorem equation : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := by
  intro m g m' g' hpre hargs
  letI : Cert.Pre_finite_KernelIdeal.Facts := pre_facts
  have hx := Cert.KernelIdeal.real_x _ fun c z => by
    rw [← (hargs c).1]; exact Cert.KernelIdeal.real_of_test_x _ _ _ _ _ (hpre c).1 z
  have hq := Cert.KernelIdeal.real_w _ fun c z => by
    rw [← (hargs c).2.1]; exact Cert.KernelIdeal.real_of_test_q _ _ _ _ _ (hpre c).2.1 z
  have hk := Cert.KernelIdeal.real_w _ fun c z => by
    rw [← (hargs c).2.2.1]; exact Cert.KernelIdeal.real_of_test_k _ _ _ _ _ (hpre c).2.2 z
  refine ⟨Cert.ReferenceIdeal.Value.res_main_v87 m' 0, ?_, ?_⟩
  · refine (θ_run Cert.KernelIdeal.defs _ _).mono (fun r h c => ?_) (Cert.KernelIdeal.run_main (F := Ideal) m g)
    refine ⟨(h.1 c).1.trans ?_, (h.1 c).2⟩
    rw [Cert.ReferenceIdeal.res_eq]
    exact Cert.KernelIdeal.result_eq (fun c => hargs c) hx hq hk c
  · exact (θ_run Cert.ReferenceIdeal.defs _ _).mono (fun r h => h 0) (Cert.ReferenceIdeal.Value.run (F := Ideal) m' g')

/-- All claims, with the witnesses of the stated side conditions. -/
theorem claim : Cert.Claim :=
  ⟨Cert.Kernel.Gen.facts, Cert.KernelIdeal.Gen.facts, Cert.ReferenceIdeal.Gen.facts, pre_facts, pre_facts_ref,
    kernel_frame, ideal_frame, ideal_frame_pre, reference_frame, reference_frame_pre, trivial, equation⟩

end Cert.Proof

end
